-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x4096 : Shape := ⟨2, ![1024, 4096]⟩
abbrev S2x1024x1024 : Shape := ⟨3, ![2, 1024, 1024]⟩
abbrev S1024x1024 : Shape := ⟨2, ![1024, 1024]⟩
abbrev S2x2x1024x2048 : Shape := ⟨4, ![2, 2, 1024, 2048]⟩
abbrev S_ : Shape := ⟨0, ![]⟩
abbrev S2x2x2 : Shape := ⟨3, ![2, 2, 2]⟩
abbrev S2 : Shape := ⟨1, ![2]⟩
abbrev S1x1024x1024 : Shape := ⟨3, ![1, 1024, 1024]⟩
abbrev S1x1x1024x1024 : Shape := ⟨4, ![1, 1, 1024, 1024]⟩
abbrev S1x1x1 : Shape := ⟨3, ![1, 1, 1]⟩
abbrev S1024x2048 : Shape := ⟨2, ![1024, 2048]⟩
abbrev S1x1x1024x2048 : Shape := ⟨4, ![1, 1, 1024, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .f32⟩
  | .local _ .vmem, ⟨0, _⟩ => ⟨S2x1024x1024, .bf16⟩
  | .local _ .vmem, ⟨1, _⟩ => ⟨S1024x1024, .f32⟩
  | .local _ .vmem, ⟨2, _⟩ => ⟨S1024x4096, .bf16⟩
  | .local _ .vmem, ⟨3, _⟩ => ⟨S2x2x1024x2048, .bf16⟩
  | .local _ .vmem, ⟨4, _⟩ => ⟨S2x2x1024x2048, .bf16⟩
  | .local _ .vmem, ⟨5, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v13 : BitVec 32 := Scalar.addi v2 c7_i32
  let v14 : BitVec 32 := Scalar.subi v13 c0_i32_10
  let c8_i32_11 : BitVec 32 := 8#32
  let v15 : BitVec 32 := Scalar.remsi v14 c8_i32_11
  let c1024_i32 : BitVec 32 := 1024#32
  let v16 : BitVec 32 := Scalar.muli v15 c1024_i32
  let c0_i32_12 : BitVec 32 := 0#32
  ![v16.toNat, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_45 : BitVec 32 := 1#32
  let v39 : BitVec 32 := Scalar.muli v7 c1_i32_45
  let v40 : BitVec 32 := Scalar.addi c0_i32_46 v39
  v40.toNat
def k0_off2 (d0 : Dev nD) (c0_i32_58 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v56 : BitVec 32 := Scalar.addi v2 c1_i32_57
  let v57 : BitVec 32 := Scalar.addi v56 c0_i32_58
  let c8_i32_59 : BitVec 32 := 8#32
  let v58 : BitVec 32 := Scalar.remsi v57 c8_i32_59
  let c1024_i32_60 : BitVec 32 := 1024#32
  let v59 : BitVec 32 := Scalar.muli v58 c1024_i32_60
  let c0_i32_61 : BitVec 32 := 0#32
  ![v59.toNat, 0]
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_87 : BitVec 32 := 1#32
  let v75 : BitVec 32 := Scalar.muli v5 c1_i32_87
  let v76 : BitVec 32 := Scalar.addi c0_i32_88 v75
  v76.toNat
def k0_dev5 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_120 : BitVec 32 := 1#32
  let v100 : BitVec 32 := Scalar.muli v7 c1_i32_120
  let v101 : BitVec 32 := Scalar.addi c0_i32_121 v100
  v101.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_152 : BitVec 32 := 1#32
  let v125 : BitVec 32 := Scalar.muli v5 c1_i32_152
  let v126 : BitVec 32 := Scalar.addi c0_i32_153 v125
  v126.toNat
def k0_dev7 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_229 : BitVec 32 := 1#32
  let v191 : BitVec 32 := Scalar.muli v5 c1_i32_229
  let v192 : BitVec 32 := Scalar.addi c0_i32_230 v191
  v192.toNat
def k0_dev8 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_241 : BitVec 32 := 1#32
  let v193 : BitVec 32 := Scalar.muli v7 c1_i32_241
  let v194 : BitVec 32 := Scalar.addi c0_i32_242 v193
  v194.toNat
def k0_dev9 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_276 : BitVec 32 := 1#32
  let v221 : BitVec 32 := Scalar.muli v7 c1_i32_276
  let v222 : BitVec 32 := Scalar.addi c0_i32_277 v221
  v222.toNat
def k0_dev10 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_288 : BitVec 32 := 1#32
  let v223 : BitVec 32 := Scalar.muli v5 c1_i32_288
  let v224 : BitVec 32 := Scalar.addi c0_i32_289 v223
  v224.toNat
def k0_dev11 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_323 : BitVec 32 := 1#32
  let v251 : BitVec 32 := Scalar.muli v5 c1_i32_323
  let v252 : BitVec 32 := Scalar.addi c0_i32_324 v251
  v252.toNat
def k0_dev12 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_335 : BitVec 32 := 1#32
  let v253 : BitVec 32 := Scalar.muli v7 c1_i32_335
  let v254 : BitVec 32 := Scalar.addi c0_i32_336 v253
  v254.toNat
def k0_dev13 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_370 : BitVec 32 := 1#32
  let v281 : BitVec 32 := Scalar.muli v7 c1_i32_370
  let v282 : BitVec 32 := Scalar.addi c0_i32_371 v281
  v282.toNat
def k0_dev14 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_382 : BitVec 32 := 1#32
  let v283 : BitVec 32 := Scalar.muli v5 c1_i32_382
  let v284 : BitVec 32 := Scalar.addi c0_i32_383 v283
  v284.toNat
def k0_dev15 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_519 : BitVec 32 := 1#32
  let v373 : BitVec 32 := Scalar.muli v5 c1_i32_519
  let v374 : BitVec 32 := Scalar.addi c0_i32_520 v373
  v374.toNat
def k0_dev16 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_533 : BitVec 32 := 1#32
  let v375 : BitVec 32 := Scalar.muli v7 c1_i32_533
  let v376 : BitVec 32 := Scalar.addi c0_i32_534 v375
  v376.toNat
def k0_dev17 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_568 : BitVec 32 := 1#32
  let v403 : BitVec 32 := Scalar.muli v7 c1_i32_568
  let v404 : BitVec 32 := Scalar.addi c0_i32_569 v403
  v404.toNat
def k0_dev18 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_582 : BitVec 32 := 1#32
  let v405 : BitVec 32 := Scalar.muli v5 c1_i32_582
  let v406 : BitVec 32 := Scalar.addi c0_i32_583 v405
  v406.toNat
def k0_dev19 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_617 : BitVec 32 := 1#32
  let v433 : BitVec 32 := Scalar.muli v5 c1_i32_617
  let v434 : BitVec 32 := Scalar.addi c0_i32_618 v433
  v434.toNat
def k0_dev20 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_631 : BitVec 32 := 1#32
  let v435 : BitVec 32 := Scalar.muli v7 c1_i32_631
  let v436 : BitVec 32 := Scalar.addi c0_i32_632 v435
  v436.toNat
def k0_dev21 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_666 : BitVec 32 := 1#32
  let v463 : BitVec 32 := Scalar.muli v7 c1_i32_666
  let v464 : BitVec 32 := Scalar.addi c0_i32_667 v463
  v464.toNat
def k0_dev22 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_680 : BitVec 32 := 1#32
  let v465 : BitVec 32 := Scalar.muli v5 c1_i32_680
  let v466 : BitVec 32 := Scalar.addi c0_i32_681 v465
  v466.toNat
def k0_dev23 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_816 : BitVec 32 := 1#32
  let v555 : BitVec 32 := Scalar.muli v5 c1_i32_816
  let v556 : BitVec 32 := Scalar.addi c0_i32_817 v555
  v556.toNat
def k0_dev24 (d0 : Dev nD) : Nat :=
  let c0_i32_831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_830 : BitVec 32 := 1#32
  let v557 : BitVec 32 := Scalar.muli v7 c1_i32_830
  let v558 : BitVec 32 := Scalar.addi c0_i32_831 v557
  v558.toNat
def k0_dev25 (d0 : Dev nD) : Nat :=
  let c0_i32_866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_865 : BitVec 32 := 1#32
  let v585 : BitVec 32 := Scalar.muli v7 c1_i32_865
  let v586 : BitVec 32 := Scalar.addi c0_i32_866 v585
  v586.toNat
def k0_dev26 (d0 : Dev nD) : Nat :=
  let c0_i32_880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_879 : BitVec 32 := 1#32
  let v587 : BitVec 32 := Scalar.muli v5 c1_i32_879
  let v588 : BitVec 32 := Scalar.addi c0_i32_880 v587
  v588.toNat
def k0_dev27 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_914 : BitVec 32 := 1#32
  let v615 : BitVec 32 := Scalar.muli v5 c1_i32_914
  let v616 : BitVec 32 := Scalar.addi c0_i32_915 v615
  v616.toNat
def k0_dev28 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_928 : BitVec 32 := 1#32
  let v617 : BitVec 32 := Scalar.muli v7 c1_i32_928
  let v618 : BitVec 32 := Scalar.addi c0_i32_929 v617
  v618.toNat
def k0_dev29 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_963 : BitVec 32 := 1#32
  let v645 : BitVec 32 := Scalar.muli v7 c1_i32_963
  let v646 : BitVec 32 := Scalar.addi c0_i32_964 v645
  v646.toNat
def k0_dev30 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_977 : BitVec 32 := 1#32
  let v647 : BitVec 32 := Scalar.muli v5 c1_i32_977
  let v648 : BitVec 32 := Scalar.addi c0_i32_978 v647
  v648.toNat
def k0_dev31 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1113 : BitVec 32 := 1#32
  let v737 : BitVec 32 := Scalar.muli v5 c1_i32_1113
  let v738 : BitVec 32 := Scalar.addi c0_i32_1114 v737
  v738.toNat
def k0_dev32 (d0 : Dev nD) : Nat :=
  let c0_i32_1128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1127 : BitVec 32 := 1#32
  let v739 : BitVec 32 := Scalar.muli v7 c1_i32_1127
  let v740 : BitVec 32 := Scalar.addi c0_i32_1128 v739
  v740.toNat
def k0_dev33 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1162 : BitVec 32 := 1#32
  let v767 : BitVec 32 := Scalar.muli v7 c1_i32_1162
  let v768 : BitVec 32 := Scalar.addi c0_i32_1163 v767
  v768.toNat
def k0_dev34 (d0 : Dev nD) : Nat :=
  let c0_i32_1177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1176 : BitVec 32 := 1#32
  let v769 : BitVec 32 := Scalar.muli v5 c1_i32_1176
  let v770 : BitVec 32 := Scalar.addi c0_i32_1177 v769
  v770.toNat
def k0_dev35 (d0 : Dev nD) : Nat :=
  let c0_i32_1212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1211 : BitVec 32 := 1#32
  let v797 : BitVec 32 := Scalar.muli v5 c1_i32_1211
  let v798 : BitVec 32 := Scalar.addi c0_i32_1212 v797
  v798.toNat
def k0_dev36 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1225 : BitVec 32 := 1#32
  let v799 : BitVec 32 := Scalar.muli v7 c1_i32_1225
  let v800 : BitVec 32 := Scalar.addi c0_i32_1226 v799
  v800.toNat
def k0_dev37 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1260 : BitVec 32 := 1#32
  let v827 : BitVec 32 := Scalar.muli v7 c1_i32_1260
  let v828 : BitVec 32 := Scalar.addi c0_i32_1261 v827
  v828.toNat
def k0_dev38 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1274 : BitVec 32 := 1#32
  let v829 : BitVec 32 := Scalar.muli v5 c1_i32_1274
  let v830 : BitVec 32 := Scalar.addi c0_i32_1275 v829
  v830.toNat
def k0_dev39 (d0 : Dev nD) : Nat :=
  let c0_i32_1411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1410 : BitVec 32 := 1#32
  let v919 : BitVec 32 := Scalar.muli v5 c1_i32_1410
  let v920 : BitVec 32 := Scalar.addi c0_i32_1411 v919
  v920.toNat
def k0_dev40 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1424 : BitVec 32 := 1#32
  let v921 : BitVec 32 := Scalar.muli v7 c1_i32_1424
  let v922 : BitVec 32 := Scalar.addi c0_i32_1425 v921
  v922.toNat
def k0_dev41 (d0 : Dev nD) : Nat :=
  let c0_i32_1460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1459 : BitVec 32 := 1#32
  let v949 : BitVec 32 := Scalar.muli v7 c1_i32_1459
  let v950 : BitVec 32 := Scalar.addi c0_i32_1460 v949
  v950.toNat
def k0_dev42 (d0 : Dev nD) : Nat :=
  let c0_i32_1474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1473 : BitVec 32 := 1#32
  let v951 : BitVec 32 := Scalar.muli v5 c1_i32_1473
  let v952 : BitVec 32 := Scalar.addi c0_i32_1474 v951
  v952.toNat
def k0_dev43 (d0 : Dev nD) : Nat :=
  let c0_i32_1509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1508 : BitVec 32 := 1#32
  let v979 : BitVec 32 := Scalar.muli v5 c1_i32_1508
  let v980 : BitVec 32 := Scalar.addi c0_i32_1509 v979
  v980.toNat
def k0_dev44 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1522 : BitVec 32 := 1#32
  let v981 : BitVec 32 := Scalar.muli v7 c1_i32_1522
  let v982 : BitVec 32 := Scalar.addi c0_i32_1523 v981
  v982.toNat
def k0_dev45 (d0 : Dev nD) : Nat :=
  let c0_i32_1558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1557 : BitVec 32 := 1#32
  let v1009 : BitVec 32 := Scalar.muli v7 c1_i32_1557
  let v1010 : BitVec 32 := Scalar.addi c0_i32_1558 v1009
  v1010.toNat
def k0_dev46 (d0 : Dev nD) : Nat :=
  let c0_i32_1572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1571 : BitVec 32 := 1#32
  let v1011 : BitVec 32 := Scalar.muli v5 c1_i32_1571
  let v1012 : BitVec 32 := Scalar.addi c0_i32_1572 v1011
  v1012.toNat
def k0_dev47 (d0 : Dev nD) : Nat :=
  let c0_i32_1719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1718 : BitVec 32 := 1#32
  let v1101 : BitVec 32 := Scalar.muli v7 c1_i32_1718
  let v1102 : BitVec 32 := Scalar.addi c0_i32_1719 v1101
  v1102.toNat
def k0_dev48 (d0 : Dev nD) : Nat :=
  let c0_i32_1765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1764 : BitVec 32 := 1#32
  let v1129 : BitVec 32 := Scalar.muli v5 c1_i32_1764
  let v1130 : BitVec 32 := Scalar.addi c0_i32_1765 v1129
  v1130.toNat
def k0_dev49 (d0 : Dev nD) : Nat :=
  let c0_i32_1811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1810 : BitVec 32 := 1#32
  let v1157 : BitVec 32 := Scalar.muli v7 c1_i32_1810
  let v1158 : BitVec 32 := Scalar.addi c0_i32_1811 v1157
  v1158.toNat
def k0_dev50 (d0 : Dev nD) : Nat :=
  let c0_i32_1857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1856 : BitVec 32 := 1#32
  let v1185 : BitVec 32 := Scalar.muli v5 c1_i32_1856
  let v1186 : BitVec 32 := Scalar.addi c0_i32_1857 v1185
  v1186.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelProgEq.lean ====
/-
  The printed body is the body of `KernelProg`: both unfold to the same sequence of memory operations.
-/
module

public import proofs.«01_k».proof.Proof.KernelProg

@[expose] public section

noncomputable section

namespace Cert.Kernel.Ring

open Idealize.ShloMosaic Idealize.ShloMosaic.TcCoe Idealize.SL.Sem
open Cert.Kernel.Gen

variable {F : FTy → Type} [FloatOps F]

set_option maxHeartbeats 8000000 in
set_option maxRecDepth 100000 in
/-- The printed body is this one. -/
theorem body_eq (t : Fin cfg0.N) : bodyAt0 (F := F) t = body (F := F) := by
  rfl

end Cert.Kernel.Ring

end
-- ==== Proof.KernelIdealProg.lean ====
/-
  The kernel's body in the shape of its source: a handful of fragments over a direction `b`, a half `sub`
  and a step `s`, and the body as their sequence over the steps (`KernelIdealProgEq`: the printed body is
  that sequence). Everything later reasons about the fragments, once for all directions, halves and steps.
-/
module

public import proofs.«01_k».proof.Proof.Gen.KernelIdeal.Skeleton
public import proofs.«01_k».proof.Proof.Gen.KernelIdeal.Points

@[expose] public section

noncomputable section

namespace Cert.KernelIdeal.Ring

open Idealize.ShloMosaic Idealize.ShloMosaic.TcCoe Idealize.SL.Sem
open Cert.KernelIdeal.Gen

variable {F : FTy → Type} [FloatOps F]

/-! ## Places: buffers, windows, semaphores -/

/-- Block of the activations, of the weights, and of the result. -/
abbrev X : Memref sig .tc .hbm S8192x1024 .f32 := Memref.whole main_arg0
abbrev W : Memref sig .tc .hbm S1024x4096 .f32 := Memref.whole main_arg1
abbrev O : Memref sig .tc .hbm S1024x4096 .f32 := Memref.whole main_v1
/-- The cast tiles, the fetched tile, the cast weights. -/
abbrev XT : Memref sig .tc .vmem S2x1024x1024 .bf16 := Memref.whole cc0_scratch0
abbrev XF : Memref sig .tc .vmem S1024x1024 .f32 := Memref.whole cc0_scratch1
abbrev WB : Memref sig .tc .vmem S1024x4096 .bf16 := Memref.whole cc0_scratch2
/-- The send slots, the receive slots, the result's staging slots. -/
abbrev SB : Memref sig .tc .vmem S2x2x1024x2048 .bf16 := Memref.whole cc0_scratch3
abbrev RB : Memref sig .tc .vmem S2x2x1024x2048 .bf16 := Memref.whole cc0_scratch4
abbrev OS : Memref sig .tc .vmem S2x1024x1024 .f32 := Memref.whole cc0_scratch5

theorem tile_inb (p : Fin 2) : ∀ a, (![p.val, 0, 0] : Fin 3 → Nat) a + S1x1024x1024.size a ≤ S2x1024x1024.size a := by
  revert p; decide
theorem tile_packed (p : Fin 2) : (Rect.unit (s := S2x1024x1024) ![p.val, 0, 0] S1x1024x1024.size (tile_inb p)).PackedRows
    (EltTy.packing .bf16) := by revert p; decide
theorem strip_inb (b sub : Fin 2) :
    ∀ a, (![0, 2048 * b.val + 1024 * sub.val] : Fin 2 → Nat) a + S1024x1024.size a ≤ S1024x4096.size a := by
  revert b sub; decide
theorem strip_packed (b sub : Fin 2) : (Rect.unit (s := S1024x4096) ![0, 2048 * b.val + 1024 * sub.val] S1024x1024.size
    (strip_inb b sub)).PackedRows (EltTy.packing .bf16) := by revert b sub; decide
theorem half_inb (b : Fin 2) : ∀ a, (![0, 2048 * b.val] : Fin 2 → Nat) a + S1024x2048.size a ≤ S1024x4096.size a := by
  revert b; decide
theorem piece_inb (b p sub : Fin 2) :
    ∀ a, (![b.val, p.val, 0, 1024 * sub.val] : Fin 4 → Nat) a + S1x1x1024x1024.size a ≤ S2x2x1024x2048.size a := by
  revert b p sub; decide
theorem piece_packed (b p sub : Fin 2) : (Rect.unit (s := S2x2x1024x2048) ![b.val, p.val, 0, 1024 * sub.val]
    S1x1x1024x1024.size (piece_inb b p sub)).PackedRows (EltTy.packing .bf16) := by revert b p sub; decide
theorem piece_words (b p sub : Fin 2) : (Rect.unit (s := S2x2x1024x2048) ![b.val, p.val, 0, 1024 * sub.val]
    S1x1x1024x1024.size (piece_inb b p sub)).WholeWords (EltTy.packing .bf16) := by revert b p sub; decide
theorem slot_inb (b p : Fin 2) :
    ∀ a, (![b.val, p.val, 0, 0] : Fin 4 → Nat) a + S1x1x1024x2048.size a ≤ S2x2x1024x2048.size a := by
  revert b p; decide
theorem slot_packed (b p : Fin 2) : (Rect.unit (s := S2x2x1024x2048) ![b.val, p.val, 0, 0]
    S1x1x1024x2048.size (slot_inb b p)).PackedRows (EltTy.packing .bf16) := by revert b p; decide
theorem sem_inb (b p sub : Fin 2) :
    ∀ a, (![b.val, p.val, sub.val] : Fin 3 → Nat) a + S1x1x1.size a ≤ S2x2x2.size a := by
  revert b p sub; decide
theorem osem_inb (p : Fin 2) : ∀ a, (![p.val] : Fin 1 → Nat) a + S1.size a ≤ S2.size a := by
  revert p; decide

/-- Tile `p` of a two-tile buffer; strip `(b, sub)` and half `b` of a weights-shaped buffer; piece
    `(b, p, sub)` and whole slot `(b, p)` of the send and receive buffers. -/
abbrev tileR (p : Fin 2) : Rect S2x1024x1024 := Rect.unit (s := S2x1024x1024) ![p.val, 0, 0] S1x1024x1024.size (tile_inb p)
abbrev stripR (b sub : Fin 2) : Rect S1024x4096 :=
  Rect.unit (s := S1024x4096) ![0, 2048 * b.val + 1024 * sub.val] S1024x1024.size (strip_inb b sub)
abbrev halfR (b : Fin 2) : Rect S1024x4096 := Rect.unit (s := S1024x4096) ![0, 2048 * b.val] S1024x2048.size (half_inb b)
abbrev pieceR (b p sub : Fin 2) : Rect S2x2x1024x2048 :=
  Rect.unit (s := S2x2x1024x2048) ![b.val, p.val, 0, 1024 * sub.val] S1x1x1024x1024.size (piece_inb b p sub)
abbrev slotR (b p : Fin 2) : Rect S2x2x1024x2048 :=
  Rect.unit (s := S2x2x1024x2048) ![b.val, p.val, 0, 0] S1x1x1024x2048.size (slot_inb b p)
abbrev fullR : Rect S1024x1024 := Rect.unit (s := S1024x1024) ![0, 0] S1024x1024.size inb_S1024x1024_S1024x1024_0_0

/-- Where the tile of step `s` starts in the activations' block, in either direction. -/
abbrev xoff (d : Dev nD) (b : Fin 2) (s : Fin 8) : Fin 2 → Nat :=
  ![k0_off1 d (BitVec.ofNat 32 s.val), k0_off2 d (BitVec.ofNat 32 s.val)] b
theorem xoff_inb (d : Dev nD) (b : Fin 2) (s : Fin 8) : ∀ a, xoff d b s a + S1024x1024.size a ≤ S8192x1024.size a := by
  match b with
  | 0 => exact k0_off1_inb d s
  | 1 => exact k0_off2_inb d s
abbrev chunkR (d : Dev nD) (b : Fin 2) (s : Fin 8) : Rect S8192x1024 :=
  Rect.unit (s := S8192x1024) (xoff d b s) S1024x1024.size (xoff_inb d b s)

abbrev XC (d : Dev nD) (b : Fin 2) (s : Fin 8) : Memref sig .tc .hbm S1024x1024 .f32 := X.slice (chunkR d b s) (fun _ => rfl)
abbrev WS (b sub : Fin 2) : Memref sig .tc .hbm S1024x1024 .f32 := W.slice (stripR b sub) (fun _ => rfl)
abbrev OC (b sub : Fin 2) : Memref sig .tc .hbm S1024x1024 .f32 := O.slice (stripR b sub) (fun _ => rfl)
abbrev SP (b p sub : Fin 2) : Memref sig .tc .vmem S1024x1024 .bf16 :=
  (SB.slice (pieceR b p sub) (fun _ => rfl)).squeeze S1024x1024 squeezes_S1x1x1024x1024_S1024x1024
abbrev RP (b p sub : Fin 2) : Memref sig .tc .vmem S1024x1024 .bf16 :=
  (RB.slice (pieceR b p sub) (fun _ => rfl)).squeeze S1024x1024 squeezes_S1x1x1024x1024_S1024x1024
abbrev OT (p : Fin 2) : Memref sig .tc .vmem S1024x1024 .f32 :=
  (OS.slice (tileR p) (fun _ => rfl)).squeeze S1024x1024 squeezes_S1x1024x1024_S1024x1024

/-- The semaphores: of the fetches, of piece `(b, p, sub)`'s departures and arrivals, of the result's
    copies, of a direction's credits, of the barrier. -/
abbrev xfS : DmaSem sig := (cc0_scratch6 : DmaSems sig S_).sem
abbrev sendS (b p sub : Fin 2) : DmaSem sig :=
  ((cc0_scratch7.slice (Rect.unit (s := S2x2x2) ![b.val, p.val, sub.val] S1x1x1.size (sem_inb b p sub))).squeeze S_
    squeezes_S1x1x1_S_).sem
abbrev recvS (b p sub : Fin 2) : DmaSem sig :=
  ((cc0_scratch8.slice (Rect.unit (s := S2x2x2) ![b.val, p.val, sub.val] S1x1x1.size (sem_inb b p sub))).squeeze S_
    squeezes_S1x1x1_S_).sem
abbrev outS (p : Fin 2) : DmaSem sig :=
  ((cc0_scratch9.slice (Rect.unit (s := S2) ![p.val] S1.size (osem_inb p))).squeeze S_ squeezes_S1_S_).sem
abbrev credS (b : Fin 2) : Sem sig := ![(cc0_scratch10 : Sems sig S_).sem, (cc0_scratch11 : Sems sig S_).sem] b
abbrev barS : Sem sig := (SemArray.scalar (sig.barrier 0 rfl) : Sems sig S_).sem

/-- The neighbours, as the kernel computes them; the device a direction's pieces go to, and the one they
    come from. -/
abbrev leftD (d : Dev nD) : Dev nD := ⟨k0_dev1 d, k0_dev1_lt d⟩
abbrev rightD (d : Dev nD) : Dev nD := ⟨k0_dev2 d, k0_dev2_lt d⟩
abbrev dstD (b : Fin 2) (d : Dev nD) : Dev nD := ![rightD d, leftD d] b
abbrev upD (b : Fin 2) (d : Dev nD) : Dev nD := ![leftD d, rightD d] b

/-- A step's slot. -/
abbrev par (s : Nat) : Fin 2 := ⟨s % 2, Nat.mod_lt _ (by decide)⟩

/-! ## Pure values -/

/-- A fetched tile cast and laid out as a tile of the cast tiles. -/
def castTile (v : Vec F S1024x1024 .f32) : FVec F S1x1024x1024 .bf16 :=
  shapeCast S1x1024x1024 (truncf .bf16 v bitsLt_bf16_f32) shapeCasts_S1024x1024_S1x1024x1024
/-- A fetched strip of the weights, cast. -/
def castStrip (v : Vec F S1024x1024 .f32) : FVec F S1024x1024 .bf16 :=
  shapeCast S1024x1024 (truncf .bf16 v bitsLt_bf16_f32) shapeCasts_S1024x1024_S1024x1024
/-- The product of a tile and a strip, rounded, laid out as a piece. -/
def dotPiece (x : Vec F S1x1024x1024 .bf16) (w : Vec F S1024x1024 .bf16) : FVec F S1x1x1024x1024 .bf16 :=
  shapeCast S1x1x1024x1024 (truncf .bf16 (matmul dot_S1024x1024_S1024x1024_S1024x1024_1_0_0_1_n_n none
    (shapeCast S1024x1024 x shapeCasts_S1x1024x1024_S1024x1024) w (constant S1024x1024 .f32 0x00000000#32)) bitsLt_bf16_f32)
    shapeCasts_S1024x1024_S1x1x1024x1024
/-- The product of a tile and a half of the weights, rounded, laid out as a slot. -/
def dotSlot (x : Vec F S1x1024x1024 .bf16) (w : Vec F S1024x2048 .bf16) : FVec F S1x1x1024x2048 .bf16 :=
  shapeCast S1x1x1024x2048 (truncf .bf16 (matmul dot_S1024x1024_S1024x2048_S1024x2048_1_0_0_1_n_n none
    (shapeCast S1024x1024 x shapeCasts_S1x1024x1024_S1024x1024) w (constant S1024x2048 .f32 0x00000000#32)) bitsLt_bf16_f32)
    shapeCasts_S1024x2048_S1x1x1024x2048
theorem cols_slices (sub : Fin 2) : S1024x2048.Slices ![0, 1024 * sub.val] S1024x1024 := by revert sub; decide
/-- Half `sub` of the columns of a slot. -/
def cols (sub : Fin 2) (v : Vec F S1x1x1024x2048 .bf16) : FVec F S1024x1024 .bf16 :=
  extractStridedSlice S1024x1024 ![0, 1024 * sub.val] (shapeCast S1024x2048 v shapeCasts_S1x1x1024x2048_S1024x2048)
    (cols_slices sub)
/-- A half of two slots, added, laid out as a piece. -/
def addPiece (sub : Fin 2) (a b : Vec F S1x1x1024x2048 .bf16) : FVec F S1x1x1024x1024 .bf16 :=
  shapeCast S1x1x1024x1024 (addf (cols sub a) (cols sub b)) shapeCasts_S1024x1024_S1x1x1024x1024
/-- A half of two slots, widened, added, and cut off below zero, laid out as a tile of the staging. -/
def reluTile (sub : Fin 2) (a b : Vec F S1x1x1024x2048 .bf16) : FVec F S1x1024x1024 .f32 :=
  shapeCast S1x1024x1024 (maximumf (addf (extf .f32 (cols sub a) bitsLt_bf16_f32) (extf .f32 (cols sub b) bitsLt_bf16_f32))
    (broadcast S1024x1024 (Scalar.ofBits .f32 0x00000000#32))) shapeCasts_S1024x1024_S1x1024x1024

/-! ## Fragments -/

/-- A program of a core of this kernel. -/
abbrev P (α : Type) : Type 1 := Prog (TpuEff nD τ sig (Elt F) Λ₀ .tc) α

/-- Fetch the tile of step `s` and cast it. -/
def fetchTile (d : Dev nD) (b : Fin 2) (s : Fin 8) : P (F := F) PUnit := do
  Prog.lift (.enqueueDma (XC d b s) (.here XF) (.dma xfS) (View.wordExact_bits rfl) (Memref.isWhole_whole _).wordExact ⟨Or.inl rfl, trivial⟩)
  Prog.lift (.waitDma2 xfS (XC d b s) XF (View.wordExact_bits rfl) (Memref.isWhole_whole _).wordExact)
  let v : Vec F S1024x1024 .f32 ← Prog.lift (.load XF fullR.toLoadRect (View.loadsAt_vmem h_S1024x1024))
  let _u : Vec F S1x1024x1024 .bf16 ← Prog.lift (.load XT (tileR b).toLoadRect (View.loadsAt_vmem h_S1x1024x1024))
  Prog.lift (.store XT (tileR b) (castTile v) Finset.univ (View.stores_vmem h_S1x1024x1024
    ((Memref.isWhole_whole _).storeExact_slice rfl _ (tile_packed b)) (fun _ => rfl)) (.inl rfl))

/-- Fetch strip `(b, sub)` of the weights and cast it. -/
def fetchStrip (b sub : Fin 2) : P (F := F) PUnit := do
  Prog.lift (.enqueueDma (WS b sub) (.here XF) (.dma xfS) (View.wordExact_bits rfl) (Memref.isWhole_whole _).wordExact ⟨Or.inl rfl, trivial⟩)
  Prog.lift (.waitDma2 xfS (WS b sub) XF (View.wordExact_bits rfl) (Memref.isWhole_whole _).wordExact)
  let v : Vec F S1024x1024 .f32 ← Prog.lift (.load XF fullR.toLoadRect (View.loadsAt_vmem h_S1024x1024))
  let _u : Vec F S1024x1024 .bf16 ← Prog.lift (.load WB (stripR b sub).toLoadRect (View.loadsAt_vmem h_S1024x1024))
  Prog.lift (.store WB (stripR b sub) (castStrip v) Finset.univ (View.stores_vmem h_S1024x1024
    ((Memref.isWhole_whole _).storeExact_slice rfl _ (strip_packed b sub)) (fun _ => rfl)) (.inl rfl))

/-- Multiply the tile by one strip, into piece `(b, 0, sub)` of the send buffer. -/
def firstDot (b sub : Fin 2) : P (F := F) PUnit := do
  let x : Vec F S1x1024x1024 .bf16 ← Prog.lift (.load XT (tileR b).toLoadRect (View.loadsAt_vmem h_S1x1024x1024))
  let w : Vec F S1024x1024 .bf16 ← Prog.lift (.load WB (stripR b sub).toLoadRect (View.loadsAt_vmem h_S1024x1024))
  let _u : Vec F S1x1x1024x1024 .bf16 ← Prog.lift (.load SB (pieceR b 0 sub).toLoadRect (View.loadsAt_vmem h_S1x1x1024x1024))
  Prog.lift (.store SB (pieceR b 0 sub) (dotPiece x w) Finset.univ (View.stores_vmem h_S1x1x1024x1024
    ((Memref.isWhole_whole _).storeExact_slice rfl _ (piece_packed b 0 sub)) (fun _ => rfl)) (.inl rfl))

/-- Multiply the tile by the direction's half of the weights, into slot `(b, p)` of the send buffer. -/
def slotDot (b p : Fin 2) : P (F := F) PUnit := do
  let x : Vec F S1x1024x1024 .bf16 ← Prog.lift (.load XT (tileR b).toLoadRect (View.loadsAt_vmem h_S1x1024x1024))
  let w : Vec F S1024x2048 .bf16 ← Prog.lift (.load WB (halfR b).toLoadRect (View.loadsAt_vmem h_S1024x2048))
  let _u : Vec F S1x1x1024x2048 .bf16 ← Prog.lift (.load SB (slotR b p).toLoadRect (View.loadsAt_vmem h_S1x1x1024x2048))
  Prog.lift (.store SB (slotR b p) (dotSlot x w) Finset.univ (View.stores_vmem h_S1x1x1024x2048
    ((Memref.isWhole_whole _).storeExact_slice rfl _ (slot_packed b p)) (fun _ => rfl)) (.inl rfl))

/-- Start the transfer of piece `(b, p, sub)` to the next device. -/
def sendPiece (d : Dev nD) (b p sub : Fin 2) : P (F := F) PUnit :=
  Prog.lift (.enqueueDma (SP b p sub) (.remote (Dev.tc (dstD b d)) (RP b p sub) (.dma (sendS b p sub))) (.dma (recvS b p sub))
    (((Memref.isWhole_whole _).wordExact_slice rfl _ (piece_words b p sub)).reshape _ _)
    (((Memref.isWhole_whole _).wordExact_slice rfl _ (piece_words b p sub)).reshape _ _) ⟨⟨rfl, Or.inl rfl⟩, trivial⟩)

/-- Wait until piece `(b, p, sub)` has left. -/
def waitSend (b p sub : Fin 2) : P (F := F) PUnit :=
  Prog.lift (.waitDma2 (sendS b p sub) (RP b p sub) (SP b p sub)
    (((Memref.isWhole_whole _).wordExact_slice rfl _ (piece_words b p sub)).reshape _ _)
    (((Memref.isWhole_whole _).wordExact_slice rfl _ (piece_words b p sub)).reshape _ _))

/-- Wait until piece `(b, p, sub)` has arrived. -/
def waitRecv (b p sub : Fin 2) : P (F := F) PUnit :=
  Prog.lift (.waitDma2 (recvS b p sub) (SP b p sub) (RP b p sub)
    (((Memref.isWhole_whole _).wordExact_slice rfl _ (piece_words b p sub)).reshape _ _)
    (((Memref.isWhole_whole _).wordExact_slice rfl _ (piece_words b p sub)).reshape _ _))

/-- Add the arrived piece `(b, q, sub)` onto the send buffer's piece `(b, p, sub)`. -/
def addStep (b p q sub : Fin 2) : P (F := F) PUnit := do
  let v : Vec F S1x1x1024x2048 .bf16 ← Prog.lift (.load SB (slotR b p).toLoadRect (View.loadsAt_vmem h_S1x1x1024x2048))
  let w : Vec F S1x1x1024x2048 .bf16 ← Prog.lift (.load RB (slotR b q).toLoadRect (View.loadsAt_vmem h_S1x1x1024x2048))
  let _u : Vec F S1x1x1024x1024 .bf16 ← Prog.lift (.load SB (pieceR b p sub).toLoadRect (View.loadsAt_vmem h_S1x1x1024x1024))
  Prog.lift (.store SB (pieceR b p sub) (addPiece sub v w) Finset.univ (View.stores_vmem h_S1x1x1024x1024
    ((Memref.isWhole_whole _).storeExact_slice rfl _ (piece_packed b p sub)) (fun _ => rfl)) (.inl rfl))

/-- Give the upstream neighbour one credit; wait for one from the downstream neighbour. -/
def giveCredit (d : Dev nD) (b : Fin 2) : P (F := F) PUnit := semSignalWord (upD b d) (credS b) 1#32
def takeCredit (b : Fin 2) : P (F := F) PUnit := semWaitWord (credS b) 1#32

/-- One direction's product of step `s`. -/
def stepDot (d : Dev nD) (b : Fin 2) (s : Fin 8) : P (F := F) PUnit := do
  if 2 ≤ s.val then do
    waitSend b (par s.val) 0
    waitSend b (par s.val) 1
    fetchTile d b s
    slotDot b (par s.val)
  else do
    fetchTile d b s
    slotDot b (par s.val)

/-- One piece's part of step `s`: receive, add, free the slot, take a credit, send on. -/
def stepPiece (d : Dev nD) (b sub : Fin 2) (s : Nat) : P (F := F) PUnit := do
  waitRecv b (par (s - 1)) sub
  addStep b (par s) (par (s - 1)) sub
  if s ≤ 5 then do
    giveCredit d b
    if 2 ≤ s then do
      takeCredit b
      sendPiece d b (par s) sub
    else
      sendPiece d b (par s) sub
  else do
    takeCredit b
    sendPiece d b (par s) sub

/-- Step `s`. -/
def step (d : Dev nD) (s : Fin 8) : P (F := F) PUnit := do
  stepDot d 0 s
  stepDot d 1 s
  stepPiece d 0 0 s.val
  stepPiece d 1 0 s.val
  stepPiece d 0 1 s.val
  stepPiece d 1 1 s.val

/-- The barrier with both neighbours. -/
def handshake (d : Dev nD) : P (F := F) PUnit := do
  semSignalWord (leftD d) barS 1#32
  semSignalWord (rightD d) barS 1#32
  semWaitWord barS 2#32

/-- Step 0 of one piece. -/
def first (d : Dev nD) (b sub : Fin 2) : P (F := F) PUnit := do
  firstDot b sub
  sendPiece d b 0 sub

/-- The last piece's arrival, its sum with the device's own product, cut off below zero, on its way out. -/
def finish (b sub slot : Fin 2) : P (F := F) PUnit := do
  waitRecv b 0 sub
  let v : Vec F S1x1x1024x2048 .bf16 ← Prog.lift (.load SB (slotR b 1).toLoadRect (View.loadsAt_vmem h_S1x1x1024x2048))
  let w : Vec F S1x1x1024x2048 .bf16 ← Prog.lift (.load RB (slotR b 0).toLoadRect (View.loadsAt_vmem h_S1x1x1024x2048))
  let _u : Vec F S1x1024x1024 .f32 ← Prog.lift (.load OS (tileR slot).toLoadRect (View.loadsAt_vmem h_S1x1024x1024))
  Prog.lift (.store OS (tileR slot) (reluTile sub v w) Finset.univ (View.stores_vmem_bits_univ h_S1x1024x1024 rfl) (.inl rfl))
  Prog.lift (.enqueueDma (OT slot) (.here (OC b sub)) (.dma (outS slot)) ((View.wordExact_bits rfl).reshape _ _) (View.wordExact_bits rfl) ⟨Or.inl rfl, trivial⟩)

/-- Wait until a strip of the result is out. -/
def waitOut (b sub slot : Fin 2) : P (F := F) PUnit :=
  Prog.lift (.waitDma2 (outS slot) (OT slot) (OC b sub) ((View.wordExact_bits rfl).reshape _ _) (View.wordExact_bits rfl))

/-- Everything before the loop over the steps. -/
def prologue (d : Dev nD) : P (F := F) PUnit := do
  handshake d
  fetchTile d 0 0
  fetchStrip 0 0
  first d 0 0
  fetchStrip 1 0
  fetchTile d 1 0
  first d 1 0
  fetchStrip 0 1
  first d 0 1
  fetchStrip 1 1
  first d 1 1

/-- Everything after the loop over the steps. -/
def epilogue (d : Dev nD) : P (F := F) PUnit := do
  stepDot d 0 7
  stepDot d 1 7
  finish 0 0 0
  finish 1 0 1
  waitOut 0 0 0
  finish 0 1 0
  waitOut 1 0 1
  finish 1 1 1
  waitOut 0 1 0
  waitOut 1 1 1
  waitSend 0 0 0
  waitSend 0 0 1
  waitSend 1 0 0
  waitSend 1 0 1

/-- The body in the source's shape. -/
def body : P (F := F) PUnit := do
  let d : Dev nD ← Prog.lift .deviceId
  prologue d
  step d 1
  step d 2
  step d 3
  step d 4
  step d 5
  step d 6
  epilogue d

end Cert.KernelIdeal.Ring

end
-- ==== Proof.KernelIdealViews.lean ====
/-
  Where the kernel's windows lie and what is read through them: which elements a piece, a slot, a strip, a
  half or a tile covers, which of them are disjoint, and that a whole slot read is its two pieces read side
  by side.
-/
module

public import proofs.«01_k».proof.Proof.KernelIdealProg
public import Idealize.ShloMosaic.Lib.VecWindow
public import Idealize.ShloMosaic.Lib.ValueLayout
public import Idealize.ShloMosaic.Lib.Pipeline.ValueKit.Geometry

@[expose] public section

noncomputable section

namespace Cert.KernelIdeal.Ring

open Idealize.ShloMosaic Idealize.ShloMosaic.TcCoe Idealize.SL.Sem
open Cert.KernelIdeal.Gen
open Idealize.ShloMosaic.ValueIdx

variable {F : FTy → Type} [FloatOps F]

/-! ## Which elements a window covers -/

theorem mem_piece (b p sub : Fin 2) (i : S2x2x1024x2048.Idx) :
    i ∈ (pieceR b p sub).set ↔ (i 0).val = b.val ∧ (i 1).val = p.val ∧ (i 3).val / 1024 = sub.val := by
  rw [Rect.mem_set_unit]
  have h0 : (i 0).val < 2 := (i 0).isLt
  have h1 : (i 1).val < 2 := (i 1).isLt
  have h2 : (i 2).val < 1024 := (i 2).isLt
  have h3 : (i 3).val < 2048 := (i 3).isLt
  constructor
  · intro h
    have a0 := h 0; have a1 := h 1; have a3 := h 3
    simp at a0 a1 a3
    omega
  · rintro ⟨e0, e1, e3⟩ a
    fin_cases a <;> simp <;> omega

theorem mem_slot (b p : Fin 2) (i : S2x2x1024x2048.Idx) :
    i ∈ (slotR b p).set ↔ (i 0).val = b.val ∧ (i 1).val = p.val := by
  rw [Rect.mem_set_unit]
  have h2 : (i 2).val < 1024 := (i 2).isLt
  have h3 : (i 3).val < 2048 := (i 3).isLt
  constructor
  · intro h
    have a0 := h 0; have a1 := h 1
    simp at a0 a1
    omega
  · rintro ⟨e0, e1⟩ a
    fin_cases a <;> simp <;> omega

theorem mem_strip (b sub : Fin 2) (i : S1024x4096.Idx) :
    i ∈ (stripR b sub).set ↔ (i 1).val / 1024 = 2 * b.val + sub.val := by
  rw [Rect.mem_set_unit]
  have h0 : (i 0).val < 1024 := (i 0).isLt
  have h1 : (i 1).val < 4096 := (i 1).isLt
  constructor
  · intro h
    have a1 := h 1
    simp at a1
    omega
  · rintro e1 a
    fin_cases a <;> simp <;> omega

theorem mem_half (b : Fin 2) (i : S1024x4096.Idx) :
    i ∈ (halfR b).set ↔ (i 1).val / 2048 = b.val := by
  rw [Rect.mem_set_unit]
  have h0 : (i 0).val < 1024 := (i 0).isLt
  have h1 : (i 1).val < 4096 := (i 1).isLt
  constructor
  · intro h
    have a1 := h 1
    simp at a1
    omega
  · rintro e1 a
    fin_cases a <;> simp <;> omega

theorem mem_tile (p : Fin 2) (i : S2x1024x1024.Idx) :
    i ∈ (tileR p).set ↔ (i 0).val = p.val := by
  rw [Rect.mem_set_unit]
  have h0 : (i 0).val < 2 := (i 0).isLt
  have h1 : (i 1).val < 1024 := (i 1).isLt
  have h2 : (i 2).val < 1024 := (i 2).isLt
  constructor
  · intro h
    have a0 := h 0
    simp at a0
    omega
  · rintro e1 a
    fin_cases a <;> simp <;> omega

/-- A slot is its two pieces. -/
theorem slot_eq (b p : Fin 2) : (slotR b p).set = (pieceR b p 0).set ∪ (pieceR b p 1).set := by
  ext i
  have h3 : (i 3).val < 2048 := (i 3).isLt
  rw [Finset.mem_union, mem_slot, mem_piece, mem_piece]
  simp
  omega
theorem pieces_disjoint {b p sub b' p' sub' : Fin 2} (h : (b, p, sub) ≠ (b', p', sub')) :
    Disjoint (pieceR b p sub).set (pieceR b' p' sub').set := by
  rw [Finset.disjoint_left]
  intro i hi hj
  rw [mem_piece] at hi hj
  apply h
  ext <;> simp <;> omega
/-- A half is its two strips. -/
theorem half_eq (b : Fin 2) : (halfR b).set = (stripR b 0).set ∪ (stripR b 1).set := by
  ext i
  rw [Finset.mem_union, mem_half, mem_strip, mem_strip]
  simp
  omega
theorem strips_disjoint {b sub b' sub' : Fin 2} (h : (b, sub) ≠ (b', sub')) :
    Disjoint (stripR b sub).set (stripR b' sub').set := by
  rw [Finset.disjoint_left]
  intro i hi hj
  rw [mem_strip] at hi hj
  apply h
  ext <;> simp <;> omega
theorem tiles_disjoint {p p' : Fin 2} (h : p ≠ p') : Disjoint (tileR p).set (tileR p').set := by
  rw [Finset.disjoint_left]
  intro i hi hj
  rw [mem_tile] at hi hj
  apply h
  ext; omega

/-- The pieces, the strips and the tiles cover their buffers. -/
theorem pieces_cover : (Finset.univ : Finset (Fin 2 × Fin 2 × Fin 2)).biUnion (fun t => (pieceR t.1 t.2.1 t.2.2).set) = Finset.univ := by
  ext i
  have h0 : (i 0).val < 2 := (i 0).isLt
  have h1 : (i 1).val < 2 := (i 1).isLt
  have h3 : (i 3).val < 2048 := (i 3).isLt
  simp only [Finset.mem_biUnion, Finset.mem_univ, true_and, iff_true]
  exact ⟨(⟨(i 0).val, h0⟩, ⟨(i 1).val, h1⟩, ⟨(i 3).val / 1024, by omega⟩), (mem_piece _ _ _ i).mpr ⟨rfl, rfl, rfl⟩⟩
theorem strips_cover : (Finset.univ : Finset (Fin 2 × Fin 2)).biUnion (fun t => (stripR t.1 t.2).set) = Finset.univ := by
  ext i
  have h1 : (i 1).val < 4096 := (i 1).isLt
  simp only [Finset.mem_biUnion, Finset.mem_univ, true_and, iff_true]
  exact ⟨(⟨(i 1).val / 2048, by omega⟩, ⟨(i 1).val / 1024 % 2, by omega⟩), (mem_strip _ _ i).mpr (by dsimp only; omega)⟩
theorem tiles_cover : (Finset.univ : Finset (Fin 2)).biUnion (fun p => (tileR p).set) = Finset.univ := by
  ext i
  have h0 : (i 0).val < 2 := (i 0).isLt
  simp only [Finset.mem_biUnion, Finset.mem_univ, true_and, iff_true]
  exact ⟨⟨(i 0).val, h0⟩, (mem_tile _ i).mpr rfl⟩

/-! ## The windows' element sets, as sets of the buffers -/

theorem SP_set (b p sub : Fin 2) : (SP b p sub).view.set = (pieceR b p sub).set :=
  (View.set_reshape _ _).trans (View.set_slice_whole cc0_scratch3 (pieceR b p sub))
theorem RP_set (b p sub : Fin 2) : (RP b p sub).view.set = (pieceR b p sub).set :=
  (View.set_reshape _ _).trans (View.set_slice_whole cc0_scratch4 (pieceR b p sub))
theorem SBslot_set (b p : Fin 2) : (SB.access (slotR b p)).set = (SP b p 0).view.set ∪ (SP b p 1).view.set := by
  rw [SP_set, SP_set, ← slot_eq]
  exact View.set_slice_whole cc0_scratch3 (slotR b p)
theorem RBslot_set (b p : Fin 2) : (RB.access (slotR b p)).set = (RP b p 0).view.set ∪ (RP b p 1).view.set := by
  rw [RP_set, RP_set, ← slot_eq]
  exact View.set_slice_whole cc0_scratch4 (slotR b p)

/-! ## What is read -/

theorem shift_lt (sub : Fin 2) (y : Fin 1024) : 1024 * sub.val + y.val < 2048 := by
  have := sub.isLt; have := y.isLt; omega

omit [FloatOps F] in
/-- A column half of a slot, element by element. -/
theorem cols_apply (sub : Fin 2) (v : Vec F S1x1x1024x2048 .bf16) (x y : Fin 1024) :
    cols sub v (ix2 x y) = v (ix4 (⟨0, Nat.one_pos⟩ : Fin 1) (⟨0, Nat.one_pos⟩ : Fin 1) x ⟨1024 * sub.val + y.val, shift_lt sub y⟩) := by
  unfold cols
  rw [extractStridedSlice_apply _ _ (cols_slices sub) (ix2 x y) (ix2 x ⟨1024 * sub.val + y.val, shift_lt sub y⟩)
    (fun a => match a with | ⟨0, _⟩ => (Nat.zero_add _).symm | ⟨1, _⟩ => rfl)]
  exact congrArg v (reshapeEquiv_ix2_11ab _ _ _)

theorem emb_slot_piece (b p sub : Fin 2) (x y : Fin 1024) :
    (slotR b p).emb (ix4 (⟨0, Nat.one_pos⟩ : Fin 1) (⟨0, Nat.one_pos⟩ : Fin 1) x ⟨1024 * sub.val + y.val, shift_lt sub y⟩)
      = (pieceR b p sub).emb (ix4 (⟨0, Nat.one_pos⟩ : Fin 1) (⟨0, Nat.one_pos⟩ : Fin 1) x y) := by
  funext a
  apply Fin.ext
  rw [ValueKit.rect_emb_unit_val, ValueKit.rect_emb_unit_val]
  fin_cases a
  · rfl
  · rfl
  · rfl
  · show 0 + (1024 * sub.val + y.val) = 1024 * sub.val + y.val
    omega

omit [FloatOps F] in
theorem SP_read_apply (b p sub : Fin 2) (f : SB.view.ty.Contents (Elt F)) (x y : Fin 1024) :
    (SP b p sub).view.read (Elt F) f (ix2 x y)
      = f ((pieceR b p sub).emb (ix4 (⟨0, Nat.one_pos⟩ : Fin 1) (⟨0, Nat.one_pos⟩ : Fin 1) x y)) :=
  congrArg (fun j => f ((pieceR b p sub).emb j)) (reshapeEquiv_ix2_11ab _ x y)
omit [FloatOps F] in
theorem RP_read_apply (b p sub : Fin 2) (f : RB.view.ty.Contents (Elt F)) (x y : Fin 1024) :
    (RP b p sub).view.read (Elt F) f (ix2 x y)
      = f ((pieceR b p sub).emb (ix4 (⟨0, Nat.one_pos⟩ : Fin 1) (⟨0, Nat.one_pos⟩ : Fin 1) x y)) :=
  congrArg (fun j => f ((pieceR b p sub).emb j)) (reshapeEquiv_ix2_11ab _ x y)

/-- A column half of a slot read from the send buffer is the piece read. -/
theorem cols_SB (b p sub : Fin 2) (f : SB.view.ty.Contents (Elt F)) :
    cols sub (SB.view.readAt (Elt F) (slotR b p).toLoadRect f) = (SP b p sub).view.read (Elt F) f := by
  funext j
  obtain ⟨x, y, rfl⟩ : ∃ x y : Fin 1024, j = ix2 x y := ⟨j 0, j 1, eq_ix2 j⟩
  exact (cols_apply sub _ x y).trans ((congrArg f (emb_slot_piece b p sub x y)).trans (SP_read_apply b p sub f x y).symm)
/-- A column half of a slot read from the receive buffer is the piece read. -/
theorem cols_RB (b p sub : Fin 2) (f : RB.view.ty.Contents (Elt F)) :
    cols sub (RB.view.readAt (Elt F) (slotR b p).toLoadRect f) = (RP b p sub).view.read (Elt F) f := by
  funext j
  obtain ⟨x, y, rfl⟩ : ∃ x y : Fin 1024, j = ix2 x y := ⟨j 0, j 1, eq_ix2 j⟩
  exact (cols_apply sub _ x y).trans ((congrArg f (emb_slot_piece b p sub x y)).trans (RP_read_apply b p sub f x y).symm)

omit [FloatOps F] in
/-- A value laid out as a piece and stored at the piece is read back through the piece. -/
theorem SP_read_store (b p sub : Fin 2) (f : SB.view.ty.Contents (Elt F)) (t : Vec F S1024x1024 .bf16) :
    (SP b p sub).view.read (Elt F) ((SB.access (pieceR b p sub)).write (Elt F) f
      (shapeCast S1x1x1024x1024 t shapeCasts_S1024x1024_S1x1x1024x1024) Finset.univ) = t := by
  funext j
  have h := congrFun (View.read_write_univ (v := SB.access (pieceR b p sub)) (Val := Elt F) f
    (shapeCast S1x1x1024x1024 t shapeCasts_S1024x1024_S1x1x1024x1024))
    (Shape.reshapeEquiv (squeezes_S1x1x1024x1024_S1024x1024).numel_eq j)
  refine h.trans ?_
  show t (Shape.reshapeEquiv _ (Shape.reshapeEquiv _ j)) = t j
  rw [Shape.reshapeEquiv_reshapeEquiv, Shape.reshapeEquiv_self]

omit [FloatOps F] in
/-- A value laid out as a tile and stored at the staging tile is read back through it. -/
theorem OT_read_store (p : Fin 2) (f : OS.view.ty.Contents (Elt F)) (t : Vec F S1024x1024 .f32) :
    (OT p).view.read (Elt F) ((OS.access (tileR p)).write (Elt F) f
      (shapeCast S1x1024x1024 t shapeCasts_S1024x1024_S1x1024x1024) Finset.univ) = t := by
  funext j
  have h := congrFun (View.read_write_univ (v := OS.access (tileR p)) (Val := Elt F) f
    (shapeCast S1x1024x1024 t shapeCasts_S1024x1024_S1x1024x1024))
    (Shape.reshapeEquiv (squeezes_S1x1024x1024_S1024x1024).numel_eq j)
  refine h.trans ?_
  show t (Shape.reshapeEquiv _ (Shape.reshapeEquiv _ j)) = t j
  rw [Shape.reshapeEquiv_reshapeEquiv, Shape.reshapeEquiv_self]

/-- After a whole slot is stored, a piece of it reads its column half. -/
theorem SP_read_slot (b p sub : Fin 2) (f : SB.view.ty.Contents (Elt F)) (v : Vec F S1x1x1024x2048 .bf16) :
    (SP b p sub).view.read (Elt F) ((SB.access (slotR b p)).write (Elt F) f v Finset.univ) = cols sub v := by
  rw [← cols_SB]
  exact congrArg (cols sub) (View.read_write_univ (v := SB.access (slotR b p)) (Val := Elt F) f v)

end Cert.KernelIdeal.Ring

end
-- ==== Proof.KernelIdealCommon.lean ====
/-
  The protocol of the ring: its semaphore cells, what each wait hands over, what each device owes, and the
  levels that order the waits.

  A direction `b` passes sums around the ring in seven uses `u = 0 … 6`, each in two halves `sub`. Use `u`
  travels from the send slot `u mod 2` of a device `c` to the receive slot `u mod 2` of `dstD b c`. Its
  contents are `V b u sub c`, the parameter of this module.

  * Barrier: both neighbours signal once; the signal of direction `b` grants the receive pieces of uses 0 and 1.
  * Arrival of use `u`: hands the receiver its piece, marked written with the sender's value.
  * Departure of use `u`: hands the sender its half share of the piece back.
  * Credit `n`: tells the sender that the receiver has put back the receive pieces `0 … n`, where piece `m` is
    the one of use `m / 2 + 2`, half `m mod 2`. Credits may overtake each other only in the counter: the
    `m + 1`st credit seen speaks of piece `m` whichever of the signals it was.
-/
module

public import proofs.«01_k».proof.Proof.KernelIdealViews
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.WriteMode
public import Idealize.ShloMosaic.Lib.Transfers
public import Idealize.ShloMosaic.Lib.Tactic

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## The ring's places -/

theorem dst_up (b : Fin 2) (c : Dev nD) : dstD b (upD b c) = c := by
  revert b c; decide
theorem up_dst (b : Fin 2) (c : Dev nD) : upD b (dstD b c) = c := by
  revert b c; decide

theorem par_cell (p : Fin 2) (r : ℕ) : par (2 * r + p.val) = p := by
  have := p.isLt; apply Fin.ext; show (2 * r + p.val) % 2 = p.val; omega
theorem par_val (p : Fin 2) : par p.val = p := by revert p; decide
theorem use_eq (u : ℕ) : 2 * (u / 2) + (par u).val = u := by show 2 * (u / 2) + u % 2 = u; omega
theorem par_add_two (u : ℕ) : par (u + 2) = par u := Fin.ext (Nat.add_mod_right u 2)

/-! ## Cells -/

/-- The semaphores that devices reach across: the barrier, a piece's departure and arrival, a direction's credits. -/
inductive Cell where
  | bar
  | send (b p sub : Fin 2)
  | recv (b p sub : Fin 2)
  | cred (b : Fin 2)
  deriving DecidableEq

/-- The semaphore a cell is. -/
abbrev csem : Cell → SemLoc sig
  | .bar => .reg barS
  | .send b p sub => .dma (sendS b p sub)
  | .recv b p sub => .dma (recvS b p sub)
  | .cred b => .reg (credS b)

/-- All cells. -/
def allCells : Finset Cell :=
  {Cell.bar} ∪ (Finset.univ.image fun t : Fin 2 × Fin 2 × Fin 2 => Cell.send t.1 t.2.1 t.2.2)
    ∪ (Finset.univ.image fun t : Fin 2 × Fin 2 × Fin 2 => Cell.recv t.1 t.2.1 t.2.2)
    ∪ (Finset.univ.image fun b : Fin 2 => Cell.cred b)

theorem mem_allCells (x : Cell) : x ∈ allCells := by
  unfold allCells
  cases x with
  | bar => simp
  | send b p sub => simp
  | recv b p sub => simp
  | cred b => simp

theorem csem_injective : Function.Injective csem := by
  have key : ∀ x ∈ allCells, ∀ y ∈ allCells, csem x = csem y → x = y := by decide
  exact fun x y h => key x (mem_allCells x) y (mem_allCells y) h

/-- Cell `x` of device `c`. -/
abbrev cell (c : Dev nD) (x : Cell) : GSem nD τ sig := ((c : Thread nD τ), csem x)

theorem cell_injective : Function.Injective fun cx : Dev nD × Cell => cell cx.1 cx.2 := by
  rintro ⟨c, x⟩ ⟨c', x'⟩ h
  have h1 : c = c' := congrArg (fun g : GSem nD τ sig => g.1.1) h
  have h2 : x = x' := csem_injective (congrArg Prod.snd h)
  rw [h1, h2]

open Classical in
/-- Which cell a semaphore is, if any. -/
def role (sm : SemLoc sig) : Option Cell := if h : ∃ x, csem x = sm then some h.choose else none

theorem role_csem (x : Cell) : role (csem x) = some x := by
  have h : ∃ y, csem y = csem x := ⟨x, rfl⟩
  unfold role
  rw [dif_pos h, csem_injective h.choose_spec]

theorem role_none {sm : SemLoc sig} (h : ∀ x ∈ allCells, csem x ≠ sm) : role sm = none := by
  unfold role
  exact dif_neg fun ⟨x, hx⟩ => h x (mem_allCells x) hx

/-! ## Levels -/

/-- Indices live on the cores' semaphores, sixteen of them. -/
def L (g : GSem nD τ sig) : Finset ℕ := if g.1.2 = .tc then Finset.range 16 else ∅

/-- The level of a cell's units: departures lowest, then the barrier, then arrivals and credits in the order the
    steps take them. -/
def levOf : Cell → ℕ → ℕ
  | .bar, _ => 1
  | .send _ _ _, _ => 0
  | .recv _ _ _, u => 2 * u + 2
  | .cred _, n => 2 * (n / 2) + 3

def lev (g : GSem nD τ sig) (i : ℕ) : ℕ := match role g.2 with
  | some x => levOf x i
  | none => 0

theorem lev_cell (c : Dev nD) (x : Cell) (i : ℕ) : lev (cell c x) i = levOf x i := by
  unfold lev; rw [role_csem]
theorem L_tc (c : Dev nD) (sm : SemLoc sig) : L ((c : Thread nD τ), sm) = Finset.range 16 := if_pos rfl
theorem L_of_ne (g : GSem nD τ sig) (h : g.1.2 ≠ .tc) : L g = ∅ := if_neg h

/-! ## What a device pays -/

/-- The units a piece's transfer credits. -/
def N : ℕ := (RP 0 0 0).view.dmaCredit
theorem N_pos : 0 < N := View.dmaCredit_pos _ (by decide)

/-- A device's payments: a barrier signal, a transfer's arrival, a credit. -/
inductive Pay where
  | bar (b : Fin 2)
  | send (b : Fin 2) (u : ℕ) (sub : Fin 2)
  | cred (b : Fin 2) (n : ℕ)
  deriving DecidableEq

namespace Pay

/-- Whom device `c` pays, which of their cells, at which index, how much, in which round, under which duty. -/
def dev (c : Dev nD) : Pay → Dev nD
  | bar b => upD b c
  | send b _ _ => dstD b c
  | cred b _ => upD b c
def at_ : Pay → Cell
  | bar _ => .bar
  | send b u sub => .recv b (par u) sub
  | cred b _ => .cred b
def ix : Pay → ℕ
  | bar _ => 0
  | send _ u _ => u
  | cred _ n => n
def amt : Pay → ℕ
  | bar _ => 1
  | send _ _ _ => N
  | cred _ _ => 1
def round : Pay → ℕ
  | bar _ => 0
  | send _ u _ => u / 2
  | cred _ _ => 0
def duty : Pay → ℕ
  | bar b => b.val
  | send _ _ _ => 0
  | cred _ n => n
/-- The level of the payment. -/
def lvl (p : Pay) : ℕ := levOf p.at_ p.ix

end Pay

/-- A payment's tally. -/
def tally (c : Dev nD) (p : Pay) : CellTallies nD τ sig ℕ := tallyAt (cell (p.dev c) p.at_) p.ix p.amt

/-- What a list of payments owes. -/
def owedOf (c : Dev nD) (l : List Pay) : CellTallies nD τ sig ℕ := (l.map (tally c)).sum

theorem owedOf_nil (c : Dev nD) : owedOf c [] = 0 := rfl
theorem owedOf_cons (c : Dev nD) (p : Pay) (l : List Pay) : owedOf c (p :: l) = owedOf c l + tally c p := by
  unfold owedOf; rw [List.map_cons, List.sum_cons, add_comm]

theorem owedOf_pos {c : Dev nD} {l : List Pay} {g : GSem nD τ sig} {i : ℕ} (h : 0 < owedOf c l g i) :
    ∃ p ∈ l, g = cell (p.dev c) p.at_ ∧ i = p.ix := by
  induction l with
  | nil => exact absurd h (Nat.lt_irrefl 0)
  | cons p l ih =>
    rw [owedOf_cons, Pi.add_apply, Finsupp.add_apply] at h
    rcases Nat.add_pos_iff_pos_or_pos.mp h with h | h
    · obtain ⟨q, hq, e⟩ := ih h
      exact ⟨q, List.mem_cons_of_mem _ hq, e⟩
    · exact ⟨p, List.mem_cons_self, Pipeline.tallyAt_pos h⟩

/-! ## The payments in program order -/

/-- One piece's payments at step `s`. -/
def pieceP (b sub : Fin 2) (s : ℕ) : List Pay :=
  (if s ≤ 5 then [Pay.cred b (2 * (s - 1) + sub.val)] else []) ++ [Pay.send b s sub]
/-- A step's payments. -/
def stepP (s : ℕ) : List Pay := pieceP 0 0 s ++ pieceP 1 0 s ++ pieceP 0 1 s ++ pieceP 1 1 s
/-- The payments from step `s` on. -/
def restP (s : ℕ) : List Pay := (List.range' s (7 - s)).flatMap stepP
/-- The payments of the prologue's steps. -/
def firstP : List Pay := [.send 0 0 0, .send 1 0 0, .send 0 0 1, .send 1 0 1]
/-- All payments. -/
def allP : List Pay := [.bar 0, .bar 1] ++ firstP ++ restP 1

/-! ## The algebra -/

/-- A receive piece put back: by device, direction, and number. -/
abbrev Key : Type := Dev nD × Fin 2 × ℕ

variable (F) in
/-- The ghost state: the launch's rounds, the ring's rounds, the put-back pieces, the write mode of the receive
    pieces, the local copies. -/
abbrev UU : Type :=
  UR sig nD τ × URounds (GSem nD τ sig) ℕ × USlots Key × WmRA nD τ sig (Elt F) × Counters

local notation "𝕄" => MT nD τ sig ℕ (Elt F) ℕ (UU F) ℕ

abbrev EP : Emb (UR sig nD τ) (MT nD τ sig ℕ (Elt F) ℕ (UU F) ℕ) := embL
abbrev ER : Emb (URounds (GSem nD τ sig) ℕ) (MT nD τ sig ℕ (Elt F) ℕ (UU F) ℕ) :=
  (Emb.inl : Emb (URounds (GSem nD τ sig) ℕ) (URounds (GSem nD τ sig) ℕ × USlots Key × WmRA nD τ sig (Elt F) × Counters)).trans embR
abbrev ES : Emb (USlots Key) (MT nD τ sig ℕ (Elt F) ℕ (UU F) ℕ) :=
  ((Emb.inl : Emb (USlots Key) (USlots Key × WmRA nD τ sig (Elt F) × Counters)).trans
    (Emb.inr : Emb _ (URounds (GSem nD τ sig) ℕ × USlots Key × WmRA nD τ sig (Elt F) × Counters))).trans embR
variable (F) in
abbrev wmE : UEmb (WmRA nD τ sig (Elt F)) (UU F) :=
  (((UEmb.inl : UEmb (WmRA nD τ sig (Elt F)) (WmRA nD τ sig (Elt F) × Counters)).trans
    (UEmb.inr : UEmb _ (USlots Key × WmRA nD τ sig (Elt F) × Counters))).trans
    (UEmb.inr : UEmb _ (URounds (GSem nD τ sig) ℕ × USlots Key × WmRA nD τ sig (Elt F) × Counters))).trans UEmb.inr
abbrev EC : UEmb Counters (MT nD τ sig ℕ (Elt F) ℕ (UU F) ℕ) := countersEmb

/-! ## What is handed over -/

/-- Device `c`'s send piece, receive piece, at a share, holding values. -/
def sp (c : Dev nD) (b p sub : Fin 2) (q : PosShare TreeShare) (v : Vec F S1024x1024 .bf16) : sProp 𝕄 :=
  (SP b p sub).view.loc (c : Thread nD τ) ↦[(SP b p sub).view.set]{q} (SP b p sub).view.rep v
def rp (c : Dev nD) (b p sub : Fin 2) (v : Vec F S1024x1024 .bf16) : sProp 𝕄 :=
  (RP b p sub).view.loc (c : Thread nD τ) ↦[(RP b p sub).view.set]{fullShare} (RP b p sub).view.rep v

/-- A share of device `c`'s receive piece in write mode, the target `v`, not yet written or written whole. -/
def rw (c : Dev nD) (b p sub : Fin 2) (q : PosShare TreeShare) (v : Vec F S1024x1024 .bf16) (W : Finset (Idx ((RP b p sub).view.loc (c : Thread nD τ)))) : sProp 𝕄 :=
  iprop(∃ f, willBeTo (wmE F) ((RP b p sub).view.loc (c : Thread nD τ)) (RP b p sub).view.set q f
    (fun i => some ((RP b p sub).view.rep (Val := Elt F) v i)) W)

instance sp_storable (c : Dev nD) (b p sub : Fin 2) (q) (v) : Storable (upEmb : UEmb _ 𝕄) (sp (F := F) c b p sub q v) := by
  unfold sp; infer_instance
instance rw_storable (c : Dev nD) (b p sub : Fin 2) (q) (v) (W) : Storable (upEmb : UEmb _ 𝕄) (rw (F := F) c b p sub q v W) := by
  unfold rw; infer_instance

variable (V : Fin 2 → ℕ → Fin 2 → Dev nD → Vec F S1024x1024 .bf16)

/-- The permission to send use `u` into device `c`. -/
def grant (c : Dev nD) (b : Fin 2) (u : ℕ) (sub : Fin 2) : sProp 𝕄 :=
  rw c b (par u) sub fullShare.right (V b u sub (upD b c)) ∅
/-- Use `u` arrived at device `c`. -/
def landed (c : Dev nD) (b : Fin 2) (u : ℕ) (sub : Fin 2) : sProp 𝕄 :=
  rw c b (par u) sub fullShare.right (V b u sub (upD b c)) (RP b (par u) sub).view.set
/-- The permissions of the first two uses, given at the barrier. -/
def barPay (c : Dev nD) (b : Fin 2) : sProp 𝕄 :=
  iprop((grant V c b 0 0 ∗ grant V c b 0 1) ∗ (grant V c b 1 0 ∗ grant V c b 1 1))

/-- The put-back piece `m` of device `c`. -/
abbrev key (c : Dev nD) (b : Fin 2) (m : ℕ) : Key := (c, b, m)
/-- Device `c` has put back its receive pieces below `n`, each after the wait for the use before in it. -/
def Rel (c : Dev nD) (b : Fin 2) (n : ℕ) : sProp 𝕄 :=
  bigSep (Finset.range n) fun m => iprop(released ES (key c b m) 1
    ∗ reached ER (cell c (.recv b (par (m / 2 + 2)) (par m))) ((m / 2 + 2) / 2))

instance Rel_persistent (c : Dev nD) (b : Fin 2) (n : ℕ) : BI.Persistent (Rel (F := F) c b n) := by unfold Rel; infer_instance
instance Rel_storable (c : Dev nD) (b : Fin 2) (n : ℕ) : Storable (upEmb : UEmb _ 𝕄) (Rel (F := F) c b n) := by unfold Rel; infer_instance
instance grant_storable (c : Dev nD) (b : Fin 2) (u : ℕ) (sub : Fin 2) : Storable (upEmb : UEmb _ 𝕄) (grant V c b u sub) := by
  unfold grant; infer_instance
instance landed_storable (c : Dev nD) (b : Fin 2) (u : ℕ) (sub : Fin 2) : Storable (upEmb : UEmb _ 𝕄) (landed V c b u sub) := by
  unfold landed; infer_instance
instance barPay_storable (c : Dev nD) (b : Fin 2) : Storable (upEmb : UEmb _ 𝕄) (barPay V c b) := by
  unfold barPay; infer_instance

/-! ## The schedule -/

def dutiesOf : Cell → ℕ → Finset ℕ
  | .bar, r => if r = 0 then {0, 1} else ∅
  | .send _ p _, r => if 2 * r + p.val ≤ 6 then {0} else ∅
  | .recv _ p _, r => if 2 * r + p.val ≤ 6 then {0} else ∅
  | .cred _, r => if r = 0 then Finset.range 10 else ∅
def unitsOf : Cell → ℕ
  | .bar => 1
  | .send _ _ _ => N
  | .recv _ _ _ => N
  | .cred _ => 1
def payOf (c : Dev nD) : Cell → ℕ → ℕ → sProp 𝕄
  | .bar, _, d => barPay V (dstD (par d) c) (par d)
  | .send b p sub, r, _ => sp c b p sub fullShare.right (V b (2 * r + p.val) sub c)
  | .recv b p sub, r, _ => landed V c b (2 * r + p.val) sub
  | .cred b, _, n => Rel (dstD b c) b (n + 1)

instance payOf_storable (c : Dev nD) (x : Cell) (r d : ℕ) : Storable (upEmb : UEmb _ 𝕄) (payOf V c x r d) := by
  cases x <;> (unfold payOf; infer_instance)

/-- The ring's schedule. -/
def Rd : Rounds.Schedule (GSem nD τ sig) ℕ 𝕄 where
  duties g r := match role g.2 with | some x => dutiesOf x r | none => ∅
  amount g _ _ := match role g.2 with | some x => unitsOf x | none => 1
  payload g r d := match role g.2 with | some x => payOf V g.1.1 x r d | none => iprop(emp)
  amount_pos g _ _ _ := by
    cases role g.2 with
    | none => exact Nat.one_pos
    | some x => cases x <;> first | exact Nat.one_pos | exact N_pos

instance Rd_storable (g : GSem nD τ sig) (r : ℕ) (d : ℕ) : Storable (upEmb : UEmb _ 𝕄) ((Rd V).payload g r d) := by
  show Storable upEmb (match role g.2 with | some x => payOf V g.1.1 x r d | none => iprop(emp))
  cases role g.2 <;> infer_instance

theorem duties_cell (c : Dev nD) (x : Cell) (r : ℕ) : (Rd V).duties (cell c x) r = dutiesOf x r := by
  dsimp only [Rd]; rw [role_csem]
theorem amount_cell (c : Dev nD) (x : Cell) (r d : ℕ) : (Rd V).amount (cell c x) r d = unitsOf x := by
  dsimp only [Rd]; rw [role_csem]
theorem payload_cell (c : Dev nD) (x : Cell) (r d : ℕ) : (Rd V).payload (cell c x) r d = payOf V c x r d := by
  dsimp only [Rd]; rw [role_csem]
theorem expect_cell (c : Dev nD) (x : Cell) (r : ℕ) : (Rd V).expect (cell c x) r = (dutiesOf x r).card * unitsOf x := by
  unfold Schedule.expect Schedule.amountOf
  rw [duties_cell, Finset.sum_congr rfl fun d _ => amount_cell V c x r d, Finset.sum_const, smul_eq_mul]

theorem duties_send (b sub : Fin 2) {u : ℕ} (hu : u ≤ 6) : dutiesOf (.send b (par u) sub) (u / 2) = {0} :=
  if_pos (by rw [use_eq]; exact hu)
theorem duties_recv (b sub : Fin 2) {u : ℕ} (hu : u ≤ 6) : dutiesOf (.recv b (par u) sub) (u / 2) = {0} :=
  if_pos (by rw [use_eq]; exact hu)
theorem payOf_send (c : Dev nD) (b : Fin 2) (u : ℕ) (sub : Fin 2) (d : ℕ) :
    payOf V c (.send b (par u) sub) (u / 2) d = sp c b (par u) sub fullShare.right (V b u sub c) :=
  congrArg (fun w => sp c b (par u) sub fullShare.right (V b w sub c)) (use_eq u)
theorem payOf_recv (c : Dev nD) (b : Fin 2) (u : ℕ) (sub : Fin 2) (d : ℕ) :
    payOf V c (.recv b (par u) sub) (u / 2) d = landed V c b u sub :=
  congrArg (fun w => landed V c b w sub) (use_eq u)

/-! ## Shared facts, and a device's debts -/

/-- The pieces that are put back. -/
def keys : Finset Key := Finset.univ ×ˢ Finset.univ ×ˢ Finset.range 10
/-- What a put-back piece is. -/
def slotOf (k : Key) : sProp 𝕄 := grant V k.1 k.2.1 (k.2.2 / 2 + 2) (par k.2.2)
instance slotOf_storable (k : Key) : Storable (upEmb : UEmb _ 𝕄) (slotOf V k) := by unfold slotOf; infer_instance

/-- The invariants, under the names they were given, the rounds every cell starts in, and the levels. -/
def ctx (K : Dev nD × Cell → ℕ) (J : Key → ℕ) (ιwm : ℕ) : sProp 𝕄 :=
  iprop((bigSep (Finset.univ ×ˢ allCells) fun cx : Dev nD × Cell => cellInv ER (Rd V) (K cx) (cell cx.1 cx.2))
    ∗ (bigSep (Finset.univ ×ˢ allCells) fun cx : Dev nD × Cell => reached ER (cell cx.1 cx.2) 0)
    ∗ (bigSep keys fun k => slotInv ES (J k) k (slotOf V k))
    ∗ wmInv (wmE F) ιwm ∗ levAts L lev)

instance ctx_persistent (K J ιwm) : BI.Persistent (ctx V K J ιwm) := by unfold ctx; infer_instance

section Ctx
variable (K : Dev nD × Cell → ℕ) (J : Key → ℕ) (ιwm : ℕ)

theorem ctx_inv (c : Dev nD) (x : Cell) : ctx V K J ιwm ⊢ cellInv ER (Rd V) (K (c, x)) (cell c x) := by
  unfold ctx
  have h : (bigSep (Finset.univ ×ˢ allCells) fun cx : Dev nD × Cell => cellInv ER (Rd V) (K cx) (cell cx.1 cx.2))
      ⊢ cellInv ER (Rd V) (K (c, x)) (cell c x) :=
    bigSep_elim (i := ((c, x) : Dev nD × Cell)) (Finset.mem_product.mpr ⟨Finset.mem_univ _, mem_allCells x⟩)
  iintro ⟨H, -⟩
  iapply h $$ H
theorem ctx_reached (c : Dev nD) (x : Cell) : ctx V K J ιwm ⊢ reached ER (cell c x) 0 := by
  unfold ctx
  have h : (bigSep (Finset.univ ×ˢ allCells) fun cx : Dev nD × Cell => (reached ER (cell cx.1 cx.2) 0 : sProp 𝕄))
      ⊢ reached ER (cell c x) 0 :=
    bigSep_elim (i := ((c, x) : Dev nD × Cell)) (Finset.mem_product.mpr ⟨Finset.mem_univ _, mem_allCells x⟩)
  iintro ⟨-, H, -⟩
  iapply h $$ H
theorem ctx_slot (c : Dev nD) (b : Fin 2) {m : ℕ} (hm : m < 10) :
    ctx V K J ιwm ⊢ slotInv ES (J (key c b m)) (key c b m) (slotOf V (key c b m)) := by
  unfold ctx
  have h : (bigSep keys fun k => slotInv ES (J k) k (slotOf V k))
      ⊢ slotInv ES (J (key c b m)) (key c b m) (slotOf V (key c b m)) :=
    bigSep_elim (i := key c b m) (Finset.mem_product.mpr
      ⟨Finset.mem_univ _, Finset.mem_product.mpr ⟨Finset.mem_univ _, Finset.mem_range.mpr hm⟩⟩)
  iintro ⟨-, -, H, -⟩
  iapply h $$ H
theorem ctx_wm : ctx V K J ιwm ⊢ wmInv (wmE F) ιwm := by
  unfold ctx
  iintro ⟨-, -, -, H, -⟩
  iexact H
theorem ctx_lev : ctx V K J ιwm ⊢ levAts L lev := by
  unfold ctx
  iintro ⟨-, -, -, -, H⟩
  iexact H

end Ctx

/-- The tokens a payment is made with. -/
def tok (c : Dev nD) : Pay → sProp 𝕄
  | .bar b => dutyTok ER (cell (upD b c) .bar) 0 b.val
  | .send b u sub => iprop(dutyTok ER (cell (dstD b c) (.recv b (par u) sub)) (u / 2) 0
      ∗ dutyTok ER (cell c (.send b (par u) sub)) (u / 2) 0)
  | .cred b n => dutyTok ER (cell (upD b c) (.cred b)) 0 n
def toks (c : Dev nD) : List Pay → sProp 𝕄
  | [] => iprop(emp)
  | p :: l => iprop(tok c p ∗ toks c l)

/-- Device `c` still has the payments `l` to make, and the tokens to make them with. -/
def Owing (c : Dev nD) (l : List Pay) : sProp 𝕄 := iprop((∃ W, owes (c : Thread nD τ) (owedOf c l) W) ∗ toks c l)

/-- A wait is allowed below everything still to pay. -/
theorem mayWait (c : Dev nD) (sm : SemLoc sig) (i : ℕ) (l : List Pay) (hi : i < 16)
    (h : ∀ p ∈ l, lev ((c : Thread nD τ), sm) i < p.lvl ∧ p.ix < 16) :
    (levAts L lev : sProp 𝕄) ⊢ MayWait (c : Thread nD τ) sm i (owedOf c l) :=
  Pipeline.mayWait_of_levAts (by rw [L_tc]; exact Finset.mem_range.mpr hi) fun g j hg => by
    obtain ⟨p, hp, rfl, rfl⟩ := owedOf_pos hg
    exact ⟨by rw [L_tc]; exact Finset.mem_range.mpr (h p hp).2, by rw [lev_cell]; exact (h p hp).1⟩

end Cert.KernelIdeal.Ring

end
-- ==== Proof.KernelIdealMoves.lean ====
/-
  The ring's moves, one lemma each: loading a send or receive slot of two pieces held apart, sending a piece
  on, waiting for its departure and its arrival, putting a receive piece back, the barrier and the credits.
-/
module

public import proofs.«01_k».proof.Proof.KernelIdealCommon

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

abbrev 𝒱₀ : Variants := Variants.none

/-- A program of device `c`, run to a postcondition. -/
abbrev wpc {α : Type} (c : Dev nD) (p : P (F := F) α) (Q : α → sProp 𝕄) : sProp 𝕄 :=
  wp frame (wpE (defs₀ (F := F)) 𝒱₀ (c : Thread nD τ) none) Set.univ p Q

/-! ## Shares of a send piece -/

theorem sp_halves (c : Dev nD) (b p sub : Fin 2) (v : Vec F S1024x1024 .bf16) :
    (sp c b p sub fullShare v : sProp 𝕄) ⊣⊢ iprop(sp c b p sub fullShare.left v ∗ sp c b p sub fullShare.right v) := by
  unfold sp
  exact pointsTo_share (PosShare.mem_left_op_right fullShare)

/-- A share out of which the left half can be taken and put back. -/
def Lends (q : PosShare TreeShare) : Prop := q = fullShare ∨ q = fullShare.left

theorem sp_lend {q : PosShare TreeShare} (hq : Lends q) (c : Dev nD) (b p sub : Fin 2) (v : Vec F S1024x1024 .bf16) :
    (sp c b p sub q v : sProp 𝕄) ⊢ iprop(sp c b p sub fullShare.left v ∗ (sp c b p sub fullShare.left v -∗ sp c b p sub q v)) := by
  rcases hq with rfl | rfl
  · iintro H
    ihave H' := (sp_halves c b p sub v).1 $$ H
    icases H' with ⟨Hl, Hr⟩
    isplitl [Hl]; · iexact Hl
    iintro Hl
    iapply (sp_halves c b p sub v).2
    isplitl [Hl] <;> iassumption
  · iintro H
    isplitl [H]; · iexact H
    iintro H; iexact H

/-! ## Loading a slot -/

theorem SP_disjoint (b p : Fin 2) : Disjoint (SP b p 0).view.set (SP b p 1).view.set := by
  rw [SP_set, SP_set]; exact pieces_disjoint (by simp)
theorem RP_disjoint (b p : Fin 2) : Disjoint (RP b p 0).view.set (RP b p 1).view.set := by
  rw [RP_set, RP_set]; exact pieces_disjoint (by simp)

/-- Two buffers that agree on a view's elements read alike through it. -/
theorem read_congr {sp : Space} {s : Shape} {e : EltTy} (v : View sig .tc sp s e) {f g : v.ty.Contents (Elt F)}
    (h : ∀ i ∈ v.set, f i = g i) : v.read (Elt F) f = v.read (Elt F) g := by
  funext x
  rw [View.read_apply, View.read_apply, h _ (Finset.mem_map.mpr ⟨x, Finset.mem_univ _, rfl⟩)]

/-- A points-to under contents equal on its elements. -/
theorem pts_of_eq {ℓ : Loc nD τ sig} {I : Finset (Idx ℓ)} {q : PosShare TreeShare} {f g : Buf (Elt F) ℓ} (h : ∀ i ∈ I, f i = g i) :
    (ℓ ↦[I]{q} f : sProp 𝕄) ⊢ ℓ ↦[I]{q} g := Entails.of_eq (pointsTo_congr h)

theorem join_left {ℓ : Loc nD τ sig} {I J : Finset (Idx ℓ)} (h : Disjoint I J) (f g : Buf (Elt F) ℓ) :
    ∀ i ∈ I, J.piecewise g f i = f i :=
  fun _ hi => Finset.piecewise_eq_of_notMem _ _ _ (Finset.disjoint_left.mp h hi)
theorem join_right {ℓ : Loc nD τ sig} {J : Finset (Idx ℓ)} (f g : Buf (Elt F) ℓ) :
    ∀ i ∈ J, J.piecewise g f i = g i :=
  fun _ hi => Finset.piecewise_eq_of_mem _ _ _ hi
theorem pts_part {ℓ : Loc nD τ sig} {I J : Finset (Idx ℓ)} {q : PosShare TreeShare} (h : Disjoint I J) (f g : Buf (Elt F) ℓ) :
    (ℓ ↦[I ∪ J]{q} J.piecewise g f : sProp 𝕄) ⊢ iprop((ℓ ↦[I]{q} f) ∗ (ℓ ↦[J]{q} g)) := by
  iintro H
  ihave H := (pointsTo_union h).1 $$ H
  icases H with ⟨H0, H1⟩
  isplitl [H0]
  · iapply (pts_of_eq (join_left h f g)) $$ H0
  · iapply (pts_of_eq (join_right f g)) $$ H1

theorem SP_disjoint' (b p : Fin 2) {sub sub' : Fin 2} (h : sub ≠ sub') : Disjoint (SP b p sub).view.set (SP b p sub').view.set := by
  rw [SP_set, SP_set]; exact pieces_disjoint (by simpa using h)
theorem RP_disjoint' (b p : Fin 2) {sub sub' : Fin 2} (h : sub ≠ sub') : Disjoint (RP b p sub).view.set (RP b p sub').view.set := by
  rw [RP_set, RP_set]; exact pieces_disjoint (by simpa using h)
theorem SBslot_sub (b p : Fin 2) {sub sub' : Fin 2} (h : sub ≠ sub') :
    SB.view.setOn (slotR b p).toLoadRect.set ⊆ (SP b p sub).view.set ∪ (SP b p sub').view.set := by
  have e : (SB.access (slotR b p)).set ⊆ (SP b p sub).view.set ∪ (SP b p sub').view.set := by
    rw [SBslot_set]
    rcases (show sub = 0 ∧ sub' = 1 ∨ sub = 1 ∧ sub' = 0 by omega) with ⟨rfl, rfl⟩ | ⟨rfl, rfl⟩
    · exact subset_rfl
    · exact (Finset.union_comm _ _).subset
  rwa [View.set_slice] at e
theorem RBslot_sub (b p : Fin 2) {sub sub' : Fin 2} (h : sub ≠ sub') :
    RB.view.setOn (slotR b p).toLoadRect.set ⊆ (RP b p sub).view.set ∪ (RP b p sub').view.set := by
  have e : (RB.access (slotR b p)).set ⊆ (RP b p sub).view.set ∪ (RP b p sub').view.set := by
    rw [RBslot_set]
    rcases (show sub = 0 ∧ sub' = 1 ∨ sub = 1 ∧ sub' = 0 by omega) with ⟨rfl, rfl⟩ | ⟨rfl, rfl⟩
    · exact subset_rfl
    · exact (Finset.union_comm _ _).subset
  rwa [View.set_slice] at e

/-- Loading a send slot whose pieces are held at left shares. -/
theorem load_SB_left (c : Dev nD) (b p : Fin 2) {sub sub' : Fin 2} (hs : sub ≠ sub') (v v' : Vec F S1024x1024 .bf16) {α : Type}
    {k : Vec F S1x1x1024x2048 .bf16 → P (F := F) α} {Q : α → sProp 𝕄} {hl : SB.view.LoadsAt (slotR b p).toLoadRect} :
    iprop(sp c b p sub fullShare.left v ∗ sp c b p sub' fullShare.left v')
      ⊢ iprop((∀ w : Vec F S1x1x1024x2048 .bf16, ⌜cols sub w = v ∧ cols sub' w = v'⌝
            -∗ (sp c b p sub fullShare.left v ∗ sp c b p sub' fullShare.left v') -∗ wpc c (k w) Q)
          -∗ wpc c (.op (.load SB (slotR b p).toLoadRect hl) k) Q) := by
  unfold sp
  iintro H Hk
  ihave Hj := (pointsTo_join (SP_disjoint' b p hs)) $$ H
  iapply (wp_load 𝒱₀ (c : Thread nD τ) none Set.univ (m := SB) (r := (slotR b p).toLoadRect) (SBslot_sub b p hs)) $$ Hj
  iintro Hj
  iapply Hk $$ %_ [] [Hj]
  · ipureintro
    constructor
    · rw [cols_SB]
      exact (read_congr (SP b p sub).view (join_left (ℓ := SB.view.loc (c : Thread nD τ)) (SP_disjoint' b p hs) _ _)).trans (View.read_rep _ _)
    · rw [cols_SB]
      exact (read_congr (SP b p sub').view (join_right (ℓ := SB.view.loc (c : Thread nD τ)) _ _)).trans (View.read_rep _ _)
  · iapply (pts_part (SP_disjoint' b p hs) ((SP b p sub).view.rep (Val := Elt F) v) ((SP b p sub').view.rep (Val := Elt F) v')) $$ Hj

/-- Loading a send slot, one piece of which may be leaving. -/
theorem load_SB (c : Dev nD) (b p : Fin 2) {sub sub' : Fin 2} (hs : sub ≠ sub') {q q' : PosShare TreeShare} (hq : Lends q)
    (hq' : Lends q') (v v' : Vec F S1024x1024 .bf16) {α : Type}
    {k : Vec F S1x1x1024x2048 .bf16 → P (F := F) α} {Q : α → sProp 𝕄} {hl : SB.view.LoadsAt (slotR b p).toLoadRect} :
    iprop(sp c b p sub q v ∗ sp c b p sub' q' v')
      ⊢ iprop((∀ w : Vec F S1x1x1024x2048 .bf16, ⌜cols sub w = v ∧ cols sub' w = v'⌝
            -∗ (sp c b p sub q v ∗ sp c b p sub' q' v') -∗ wpc c (k w) Q)
          -∗ wpc c (.op (.load SB (slotR b p).toLoadRect hl) k) Q) := by
  iintro ⟨H, H'⟩ Hk
  ihave H := (sp_lend hq c b p sub v) $$ H
  icases H with ⟨H, Hb⟩
  ihave H' := (sp_lend hq' c b p sub' v') $$ H'
  icases H' with ⟨H', Hb'⟩
  iapply (load_SB_left c b p hs v v') $$ [H H']
  · isplitl [H] <;> iassumption
  iintro %w %hw ⟨H, H'⟩
  ispecialize Hb $$ H
  ispecialize Hb' $$ H'
  iapply Hk $$ %w [] [Hb Hb']
  · ipureintro; exact hw
  · isplitl [Hb] <;> iassumption

/-- `A` lets the receive piece be read for one step. -/
def Reads (ιwm : ℕ) (c : Dev nD) (b p sub : Fin 2) (A : sProp 𝕄) : Prop :=
  iprop(wmInv (wmE F) ιwm ∗ A) ⊢ |={Set.univ, Set.univ \ {ιwm}}=>
    iprop(∃ cur, ((RP b p sub).view.loc (c : Thread nD τ) ↦[(RP b p sub).view.set]{fullShare} cur)
      ∗ (((RP b p sub).view.loc (c : Thread nD τ) ↦[(RP b p sub).view.set]{fullShare} cur) -∗ |={Set.univ \ {ιwm}, Set.univ}=> A))

theorem reads_rp (ιwm : ℕ) (c : Dev nD) (b p sub : Fin 2) (v : Vec F S1024x1024 .bf16) : Reads ιwm c b p sub (rp c b p sub v) := by
  unfold Reads rp
  iintro ⟨-, H⟩
  iapply World.fupd_mask_intro Set.diff_subset
  iintro Hcl
  iexists _
  isplitl [H]; · iexact H
  iintro H
  imod Hcl
  imodintro
  iexact H

theorem reads_rw (ιwm : ℕ) (c : Dev nD) (b p sub : Fin 2) (q : PosShare TreeShare) (v : Vec F S1024x1024 .bf16) (W) :
    Reads ιwm c b p sub (rw c b p sub q v W) := by
  unfold Reads rw
  iintro ⟨#Hinv, H⟩
  icases H with ⟨%f, H⟩
  icombine Hinv H as H
  imod (willBeTo_acc (Set.mem_univ ιwm)) $$ H with ⟨%cur, %W', %hW, Hraw, %hcur, Hclose⟩
  imodintro
  iexists cur
  isplitl [Hraw]; · iexact Hraw
  iintro Hraw
  ispecialize Hclose $$ %cur %∅ %⟨Finset.empty_subset _, fun i h => absurd h (Finset.notMem_empty i), fun _ _ _ => rfl⟩ Hraw
  imod Hclose with Htok
  imodintro
  rw [Finset.union_empty]
  iexists f
  iexact Htok

theorem reads_frame {ιwm : ℕ} {c : Dev nD} {b p sub : Fin 2} {A : sProp 𝕄} (B : sProp 𝕄) (h : Reads ιwm c b p sub A) :
    Reads ιwm c b p sub iprop(A ∗ B) := by
  unfold Reads at h ⊢
  iintro ⟨Hinv, HA, HB⟩
  icombine Hinv HA as H
  imod h $$ H with ⟨%cur, Hp, Hcl⟩
  imodintro
  iexists cur
  isplitl [Hp]; · iexact Hp
  iintro Hp
  ispecialize Hcl $$ Hp
  imod Hcl with HA
  imodintro
  isplitl [HA] <;> iassumption

/-- Loading a receive slot, one piece of which may be arriving. -/
theorem load_RB (ιwm : ℕ) (c : Dev nD) (b p : Fin 2) {sub sub' : Fin 2} (hs : sub ≠ sub') {A : sProp 𝕄}
    (hA : Reads ιwm c b p sub' A) (v : Vec F S1024x1024 .bf16) {α : Type}
    {k : Vec F S1x1x1024x2048 .bf16 → P (F := F) α} {Q : α → sProp 𝕄} {hl : RB.view.LoadsAt (slotR b p).toLoadRect} :
    iprop(wmInv (wmE F) ιwm ∗ rp c b p sub v ∗ A)
      ⊢ iprop((∀ w : Vec F S1x1x1024x2048 .bf16, ⌜cols sub w = v⌝ -∗ (rp c b p sub v ∗ A) -∗ wpc c (k w) Q)
          -∗ wpc c (.op (.load RB (slotR b p).toLoadRect hl) k) Q) := by
  unfold rp
  iintro ⟨#Hinv, H, HA⟩ Hk
  have hA' := hA
  unfold Reads at hA'
  icombine Hinv HA as HA
  imod hA' $$ HA with ⟨%cur, Hp, Hcl⟩
  icombine H Hp as Hj
  ihave Hj := (pointsTo_join (ℓ := RB.view.loc (c : Thread nD τ)) (RP_disjoint' b p hs)) $$ Hj
  imodintro
  iapply (fp_load (c : Thread nD τ) (RBslot_sub b p hs)) $$ Hj
  iintro Hj
  ihave H := (pts_part (RP_disjoint' b p hs) ((RP b p sub).view.rep (Val := Elt F) v) cur) $$ Hj
  icases H with ⟨H, Hp⟩
  ispecialize Hcl $$ Hp
  imod Hcl with HA
  imodintro
  iapply Hk $$ %_ [] [H HA]
  · ipureintro
    rw [cols_RB]
    exact (read_congr (RP b p sub).view (join_left (ℓ := RB.view.loc (c : Thread nD τ)) (RP_disjoint' b p hs) _ _)).trans (View.read_rep _ _)
  · isplitl [H] <;> iassumption

end Cert.KernelIdeal.Ring

end
-- ==== Proof.KernelIdealSends.lean ====
/-
  The ring's transfers: a send piece is lent for its departure and comes back; a receive piece, in write mode
  while a transfer may land in it, comes out with what landed and goes back in for the next one.
-/
module

public import proofs.«01_k».proof.Proof.KernelIdealMoves

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds Idealize.ShloMosaic.Release
open Cert.KernelIdeal.Gen

variable {F : FTy → Type} [FloatOps F]

local notation "𝕄" => MT nD τ sig ℕ (Elt F) ℕ (UU F) ℕ

variable (V : Fin 2 → ℕ → Fin 2 → Dev nD → Vec F S1024x1024 .bf16)
variable (K : Dev nD × Cell → ℕ) (J : Key → ℕ) (ιwm : ℕ)

/-! ## One piece between uses -/

/-- The departures' cell of piece `(b, par u, sub)` with everything before use `u` waited for. -/
def Idle (c : Dev nD) (b : Fin 2) (u : ℕ) (sub : Fin 2) : sProp 𝕄 :=
  iprop(atPos ER (cell c (.send b (par u) sub)) (u / 2) ∅ 0 ∗ reached ER (cell c (.send b (par u) sub)) (u / 2))
/-- Use `u` on its way out: its cell, the credit of its departure, and the share of the piece that was kept. -/
def Flight (c : Dev nD) (b : Fin 2) (u : ℕ) (sub : Fin 2) : sProp 𝕄 :=
  iprop(sp c b (par u) sub fullShare.left (V b u sub c)
    ∗ atPos ER (cell c (.send b (par u) sub)) (u / 2) ∅ 0 ∗ cred (tallyAt (cell c (.send b (par u) sub)) 0 N))
/-- The arrivals' cell of piece `(b, par u, sub)` with everything before use `u` waited for. -/
def RIdle (c : Dev nD) (b : Fin 2) (u : ℕ) (sub : Fin 2) : sProp 𝕄 :=
  iprop(atPos ER (cell c (.recv b (par u) sub)) (u / 2) ∅ 0 ∗ reached ER (cell c (.recv b (par u) sub)) (u / 2))
/-- Use `u` awaited: the share of the receive piece kept in write mode, its cell, the credit of its arrival. -/
def Await (c : Dev nD) (b : Fin 2) (u : ℕ) (sub : Fin 2) : sProp 𝕄 :=
  iprop(rw c b (par u) sub fullShare.left (V b u sub (upD b c)) ∅
    ∗ atPos ER (cell c (.recv b (par u) sub)) (u / 2) ∅ 0 ∗ cred (tallyAt (cell c (.recv b (par u) sub)) u N))

theorem Idle_next (c : Dev nD) (b : Fin 2) (u : ℕ) (sub : Fin 2) :
    (Idle c b (u + 2) sub : sProp 𝕄) = iprop(atPos ER (cell c (.send b (par u) sub)) (u / 2 + 1) ∅ 0
      ∗ reached ER (cell c (.send b (par u) sub)) (u / 2 + 1)) := by
  unfold Idle; rw [par_add_two, Nat.add_div_right u (by decide)]
theorem RIdle_next (c : Dev nD) (b : Fin 2) (u : ℕ) (sub : Fin 2) :
    (RIdle c b (u + 2) sub : sProp 𝕄) = iprop(atPos ER (cell c (.recv b (par u) sub)) (u / 2 + 1) ∅ 0
      ∗ reached ER (cell c (.recv b (par u) sub)) (u / 2 + 1)) := by
  unfold RIdle; rw [par_add_two, Nat.add_div_right u (by decide)]

/-- Every payment left is above a level. -/
def Above (n : ℕ) (l : List Pay) : Prop := ∀ p ∈ l, n < p.lvl ∧ p.ix < 16

/-! ## Running a fragment -/

/-- From `Pre`, device `c` runs `p` to `Post`. -/
def Runs (c : Dev nD) (Pre : sProp 𝕄) (p : P (F := F) PUnit) (Post : sProp 𝕄) : Prop :=
  ∀ Q : PUnit → sProp 𝕄, Pre ⊢ iprop((Post -∗ Q ⟨⟩) -∗ wpc c p Q)

theorem wpc_ret {α : Type} (c : Dev nD) (a : α) (Q : α → sProp 𝕄) : Q a ⊢ wpc (F := F) c (Prog.ret a) Q := by
  unfold wpc
  rw [wp_ret]
  iintro H
  imodintro
  iexact H

/-- A fragment at the head of a program. -/
theorem Runs.run {c : Dev nD} {Pre Post : sProp 𝕄} {p : P (F := F) PUnit} (h : Runs c Pre p Post) {α : Type}
    {k : PUnit → P (F := F) α} {Q : α → sProp 𝕄} : Pre ⊢ iprop((Post -∗ wpc c (k ⟨⟩) Q) -∗ wpc c (p >>= k) Q) := by
  unfold wpc
  rw [wp_bind]
  exact h fun a => wpc c (k a) Q

/-- Two fragments in a row. -/
theorem Runs.seq {c : Dev nD} {Pre Mid Post : sProp 𝕄} {p q : P (F := F) PUnit} (h : Runs c Pre p Mid) (h' : Runs c Mid q Post) :
    Runs c Pre (p >>= fun _ => q) Post := by
  intro Q
  iintro H Hk
  iapply h.run $$ H
  iintro H
  iapply (h' Q) $$ H Hk

/-! ## Waiting -/

theorem expect_send (c : Dev nD) (b sub : Fin 2) {u : ℕ} (hu : u ≤ 6) :
    0 + N = (Rd V).expect (cell c (.send b (par u) sub)) (u / 2) := by
  rw [expect_cell, duties_send b sub hu, Finset.card_singleton, Nat.one_mul, Nat.zero_add, unitsOf]
theorem expect_recv (c : Dev nD) (b sub : Fin 2) {u : ℕ} (hu : u ≤ 6) :
    0 + N = (Rd V).expect (cell c (.recv b (par u) sub)) (u / 2) := by
  rw [expect_cell, duties_recv b sub hu, Finset.card_singleton, Nat.one_mul, Nat.zero_add, unitsOf]
theorem SP_credit (b p sub : Fin 2) : (SP b p sub).view.dmaCredit = N := by unfold N; with_reducible rfl
theorem RP_credit (b p sub : Fin 2) : (RP b p sub).view.dmaCredit = N := by unfold N; with_reducible rfl

/-- What a wait of one piece's credit asks for. -/
theorem wait_spec (c : Dev nD) (sm : DmaSem sig) (src dst : Memref sig .tc .vmem S1024x1024 .bf16) (h : dst.view.dmaCredit = N)
    (h1 : src.view.WordExact) (h2 : dst.view.WordExact) (K : PUnit → sProp 𝕄) :
    wpE (defs₀ (F := F)) 𝒱₀ (c : Thread nD τ) none Set.univ (.waitDma2 sm src dst h1 h2) K
      = waitSpec (c : Thread nD τ) Set.univ (.dma sm) N K := by
  rw [← h]
  exact wpE_waitDma2_eq 𝒱₀ (c : Thread nD τ) none Set.univ K

/-- The two shares of a receive piece in write mode, written whole, give back the piece. -/
theorem cast_out (c : Dev nD) (b p sub : Fin 2) (v : Vec F S1024x1024 .bf16) :
    iprop(wmInv (wmE F) ιwm ∗ rw c b p sub fullShare.left v ∅ ∗ rw c b p sub fullShare.right v (RP b p sub).view.set)
      ⊢ (|={Set.univ}=> rp c b p sub v : sProp 𝕄) := by
  unfold rw rp
  iintro ⟨#Hinv, ⟨%f, Hl⟩, ⟨%f', Hr⟩⟩
  icombine Hl Hr gives %hag
  ihave Hr := (Entails.of_eq (BI.Region.willBe_congr (ι := (wmEmb ℕ (wmE F)).toEmb) (k := (RP b p sub).view.loc (c : Thread nD τ)) (q := fullShare.right)
    (I := (RP b p sub).view.set) (f := f') (f' := f) (fun i hi => ((hag i (Finset.mem_inter.mpr ⟨hi, hi⟩)).1.1).symm) (fun _ _ => rfl) (fun _ _ => Iff.rfl))) $$ Hr
  icombine Hl Hr as H
  icombine Hinv H as H
  imod (willBeTo_castOut_some (Set.mem_univ ιwm)) $$ H with H
  imodintro
  iapply (pts_of_eq fun i hi => ?_) $$ H
  rw [Finset.empty_union]
  exact Finset.piecewise_eq_of_mem _ _ _ hi

/-- A receive piece put into write mode, in two shares. -/
theorem cast_in (c : Dev nD) (b p sub : Fin 2) (v v' : Vec F S1024x1024 .bf16) :
    iprop(wmInv (wmE F) ιwm ∗ rp c b p sub v)
      ⊢ (|={Set.univ}=> (rw c b p sub fullShare.left v' ∅ ∗ rw c b p sub fullShare.right v' ∅) : sProp 𝕄) := by
  unfold rw rp
  iintro H
  imod (pointsTo_castIn (fun i => some ((RP b p sub).view.rep (Val := Elt F) v' i)) (Set.mem_univ ιwm)) $$ H with H
  imodintro
  icases H with ⟨Hl, Hr⟩
  isplitl [Hl]
  · iexists _; iexact Hl
  · iexists _; iexact Hr

theorem wait_send (c : Dev nD) (b : Fin 2) {u : ℕ} (hu : u ≤ 6) (sub : Fin 2) (l : List Pay) (hl : Above 0 l) :
    Runs c iprop(ctx V K J ιwm ∗ Flight V c b u sub ∗ Owing c l) (waitSend b (par u) sub)
      iprop(sp c b (par u) sub fullShare (V b u sub c) ∗ Idle c b (u + 2) sub ∗ Owing c l) := by
  intro Q
  unfold Flight Owing waitSend
  simp only [Prog.lift]
  iintro ⟨#Hctx, ⟨Hsp, Hat, Hcr⟩, ⟨%W, How⟩, Htk⟩ Hk
  have hw := wait_spec (F := F) c (sendS b (par u) sub) (RP b (par u) sub) (SP b (par u) sub) (SP_credit b (par u) sub)
    (((Memref.isWhole_whole _).wordExact_slice rfl _ (piece_words b (par u) sub)).reshape _ _)
    (((Memref.isWhole_whole _).wordExact_slice rfl _ (piece_words b (par u) sub)).reshape _ _)
  iapply (wp_wait_rest_token 𝒱₀ ER (Rd V) (c : Thread nD τ) none (κ := K (c, .send b (par u) sub))
    hw (Set.mem_univ _) 0 (R := u / 2) (m := 0) (T := ∅) (k' := N)
    (expect_send V c b sub hu)) $$ [Hcr How Hat]
  · isplitr; · iapply (ctx_inv V K J ιwm c (.send b (par u) sub)) $$ Hctx
    isplitl [Hcr]; · iexact Hcr
    isplitl [How]; · iexact How
    isplitr
    · ihave Hlev := (ctx_lev V K J ιwm) $$ Hctx
      iapply (mayWait c (.dma (sendS b (par u) sub)) 0 l (by decide) fun p hp => ⟨by rw [lev_cell c (.send b (par u) sub)]; exact (hl p hp).1, (hl p hp).2⟩) $$ Hlev
    · iexact Hat
  iintro ⟨How, Hat, Hre, Hpay⟩
  have hpay : (bigSep ((Rd V).duties (cell c (.send b (par u) sub)) (u / 2) \ ∅) fun d => (Rd V).payload (cell c (.send b (par u) sub)) (u / 2) d)
      ⊢ (sp c b (par u) sub fullShare.right (V b u sub c) : sProp 𝕄) := by
    rw [duties_cell, duties_send b sub hu, Finset.sdiff_empty, bigSep_singleton, payload_cell, payOf_send]
  ihave Hr := hpay $$ Hpay
  rw [Idle_next]
  iapply wpc_ret
  iapply Hk
  isplitl [Hsp Hr]
  · iapply (sp_halves c b (par u) sub (V b u sub c)).2
    isplitl [Hsp] <;> iassumption
  isplitl [Hat Hre]
  · isplitl [Hat] <;> iassumption
  isplitl [How]
  · iexists _; iexact How
  · iexact Htk

theorem wait_recv (c : Dev nD) (b : Fin 2) {u : ℕ} (hu : u ≤ 6) (sub : Fin 2) (l : List Pay) (hl : Above (2 * u + 2) l) :
    Runs c iprop(ctx V K J ιwm ∗ Await V c b u sub ∗ Owing c l) (waitRecv b (par u) sub)
      iprop(rp c b (par u) sub (V b u sub (upD b c)) ∗ RIdle c b (u + 2) sub ∗ Owing c l) := by
  intro Q
  unfold Await Owing waitRecv
  simp only [Prog.lift]
  iintro ⟨#Hctx, ⟨Hrw, Hat, Hcr⟩, ⟨%W, How⟩, Htk⟩ Hk
  have hw := wait_spec (F := F) c (recvS b (par u) sub) (SP b (par u) sub) (RP b (par u) sub) (RP_credit b (par u) sub)
    (((Memref.isWhole_whole _).wordExact_slice rfl _ (piece_words b (par u) sub)).reshape _ _)
    (((Memref.isWhole_whole _).wordExact_slice rfl _ (piece_words b (par u) sub)).reshape _ _)
  iapply (wp_wait_rest_token 𝒱₀ ER (Rd V) (c : Thread nD τ) none (κ := K (c, .recv b (par u) sub))
    hw (Set.mem_univ _) u (R := u / 2) (m := 0) (T := ∅) (k' := N)
    (expect_recv V c b sub hu)) $$ [Hcr How Hat]
  · isplitr; · iapply (ctx_inv V K J ιwm c (.recv b (par u) sub)) $$ Hctx
    isplitl [Hcr]; · iexact Hcr
    isplitl [How]; · iexact How
    isplitr
    · ihave Hlev := (ctx_lev V K J ιwm) $$ Hctx
      iapply (mayWait c (.dma (recvS b (par u) sub)) u l (by omega) fun p hp => ⟨by rw [lev_cell c (.recv b (par u) sub)]; exact (hl p hp).1, (hl p hp).2⟩) $$ Hlev
    · iexact Hat
  iintro ⟨How, Hat, Hre, Hpay⟩
  have hpay : (bigSep ((Rd V).duties (cell c (.recv b (par u) sub)) (u / 2) \ ∅) fun d => (Rd V).payload (cell c (.recv b (par u) sub)) (u / 2) d)
      ⊢ (landed V c b u sub : sProp 𝕄) := by
    rw [duties_cell, duties_recv b sub hu, Finset.sdiff_empty, bigSep_singleton, payload_cell, payOf_recv]
  ihave Hr := hpay $$ Hpay
  ihave Hwm := (ctx_wm V K J ιwm) $$ Hctx
  unfold landed
  icombine Hwm Hrw Hr as H
  imod (cast_out ιwm c b (par u) sub (V b u sub (upD b c))) $$ H with Hrp
  rw [RIdle_next]
  iapply wpc_ret
  iapply Hk
  isplitl [Hrp]; · iexact Hrp
  isplitl [Hat Hre]
  · isplitl [Hat] <;> iassumption
  isplitl [How]
  · iexists _; iexact How
  · iexact Htk

/-! ## Putting a receive piece back -/

theorem slot_once (k : Key) : iprop(slotOf V k ∗ slotOf V k) ⊢ (False : sProp 𝕄) := by
  unfold slotOf grant rw
  iintro ⟨⟨%f, H⟩, ⟨%f', H'⟩⟩
  icombine H H' gives %hag
  exfalso
  obtain ⟨i, hi⟩ : ((RP k.2.1 (par (k.2.2 / 2 + 2)) (par k.2.2)).view.set).Nonempty := by
    exact ⟨_, Finset.mem_map.mpr ⟨ix2 0 0, Finset.mem_univ _, rfl⟩⟩
  exact PosShare.not_opDef_self _ (hag i (Finset.mem_inter.mpr ⟨hi, hi⟩)).2

theorem give_back (c : Dev nD) (b : Fin 2) {m u : ℕ} {sub : Fin 2} (hm : m < 10) (hu : m / 2 + 2 = u) (hs : par m = sub)
    (v : Vec F S1024x1024 .bf16) :
    iprop(ctx V K J ιwm ∗ rp c b (par u) sub v ∗ RIdle c b u sub ∗ readerAt ES (key c b m) 0
        ∗ cred (tallyAt (cell c (.recv b (par u) sub)) u N) ∗ Rel c b m)
      ⊢ (|={Set.univ}=> (Await V c b u sub ∗ Rel c b (m + 1)) : sProp 𝕄) := by
  subst hu hs
  unfold RIdle Await
  iintro ⟨#Hctx, Hrp, ⟨Hat, Hre⟩, Hrd, Hcr, HRel⟩
  ihave Hwm := (ctx_wm V K J ιwm) $$ Hctx
  icombine Hwm Hrp as H
  imod (cast_in ιwm c b (par (m / 2 + 2)) (par m) v (V b (m / 2 + 2) (par m) (upD b c))) $$ H with ⟨Hl, Hr⟩
  imod (slot_release ES (Set.mem_univ (J (key c b m))) (slot_once V (key c b m)) 0) $$ [Hrd Hr] with ⟨-, Hrel⟩
  · isplitr; · iapply (ctx_slot V K J ιwm c b hm) $$ Hctx
    isplitl [Hrd]; · iexact Hrd
    have e : slotOf V (key c b m) = rw c b (par (m / 2 + 2)) (par m) fullShare.right (V b (m / 2 + 2) (par m) (upD b c)) ∅ := rfl
    rw [e]
    iexact Hr
  imodintro
  isplitl [Hl Hat Hcr]
  · isplitl [Hl]; · iexact Hl
    isplitl [Hat] <;> iassumption
  have hins : iprop((released ES (key c b m) 1
      ∗ reached ER (cell c (.recv b (par (m / 2 + 2)) (par m))) ((m / 2 + 2) / 2)) ∗ Rel c b m) ⊢ (Rel c b (m + 1) : sProp 𝕄) := by
    unfold Rel
    exact Entails.of_eq (by rw [Finset.range_add_one, bigSep_insert Finset.notMem_range_self]; rfl)
  iapply hins
  isplitl [Hrel Hre]
  · isplitl [Hrel] <;> iassumption
  · iexact HRel

/-! ## Sending -/

theorem toks_cons (c : Dev nD) (p : Pay) (l : List Pay) : (toks c (p :: l) : sProp 𝕄) = iprop(tok c p ∗ toks c l) := rfl
theorem tok_send (c : Dev nD) (b : Fin 2) (u : ℕ) (sub : Fin 2) : (tok c (.send b u sub) : sProp 𝕄)
    = iprop(dutyTok ER (cell (dstD b c) (.recv b (par u) sub)) (u / 2) 0 ∗ dutyTok ER (cell c (.send b (par u) sub)) (u / 2) 0) := rfl
theorem tok_bar (c : Dev nD) (b : Fin 2) : (tok c (.bar b) : sProp 𝕄) = dutyTok ER (cell (upD b c) .bar) 0 b.val := rfl
theorem tok_cred (c : Dev nD) (b : Fin 2) (n : ℕ) : (tok c (.cred b n) : sProp 𝕄) = dutyTok ER (cell (upD b c) (.cred b)) 0 n := rfl

theorem send_piece (c : Dev nD) (b : Fin 2) {u : ℕ} (hu : u ≤ 6) (sub : Fin 2) (l : List Pay) :
    Runs c iprop(ctx V K J ιwm ∗ sp c b (par u) sub fullShare (V b u sub c) ∗ Idle c b u sub ∗ grant V (dstD b c) b u sub
        ∗ reached ER (cell (dstD b c) (.recv b (par u) sub)) (u / 2) ∗ Owing c (.send b u sub :: l))
      (sendPiece c b (par u) sub) iprop(Flight V c b u sub ∗ Owing c l) := by
  intro Q
  unfold Flight Owing Idle grant rw sendPiece
  rw [toks_cons, tok_send]
  simp only [Prog.lift]
  iintro ⟨#Hctx, Hsp, ⟨Hat, Hre⟩, ⟨%f, Hg⟩, Hrd, ⟨%W, How⟩, ⟨Ht1, Ht2⟩, Htk⟩ Hk
  ihave Hsp := (sp_halves c b (par u) sub (V b u sub c)).1 $$ Hsp
  icases Hsp with ⟨Hl, Hr⟩
  ihave Hwm := (ctx_wm V K J ιwm) $$ Hctx
  icombine Hwm Hg as Hg
  have hadm : (RP b (par u) sub).view.Admitted (Elt F) (fun i => some ((RP b (par u) sub).view.rep (Val := Elt F) (V b u sub (upD b (dstD b c))) i))
      ((SP b (par u) sub).view.read (Elt F) ((SP b (par u) sub).view.rep (V b u sub c))) Finset.univ := by
    rw [View.admitted_some_iff]
    intro x _
    rw [View.read_rep, View.read_rep, up_dst]
  ihave Hwu := (willBeTo_writeUpdate (dstD b c : Thread nD τ) (v := (RP b (par u) sub).view) subset_rfl hadm) $$ Hg
  unfold sp
  have hpay : willBeTo (wmE F) ((RP b (par u) sub).view.loc (dstD b c : Thread nD τ)) (RP b (par u) sub).view.set fullShare.right f
      (fun i => some ((RP b (par u) sub).view.rep (Val := Elt F) (V b u sub (upD b (dstD b c))) i)) (∅ ∪ (RP b (par u) sub).view.set)
      ⊢ (Rd V).payload (cell (dstD b c) (.recv b (par u) sub)) (u / 2) 0 := by
    rw [payload_cell, payOf_recv, Finset.empty_union]
    unfold landed rw
    iintro H
    iexists f
    iexact H
  iapply (wp_send 𝒱₀ ER (Rd V) (c : Thread nD τ) none (κ₁ := K (c, .send b (par u) sub)) (κ₂ := K (dstD b c, .recv b (par u) sub))
    (c' := (dstD b c : Thread nD τ)) (src := SP b (par u) sub) (dst := RP b (par u) sub) (sS := .dma (sendS b (par u) sub)) (sem := .dma (recvS b (par u) sub))
    (r₁ := u / 2) (r₂ := u / 2) (d₁ := 0) (d₂ := 0)
    (by rw [duties_cell V c (.send b (par u) sub), duties_send b sub hu]; exact Finset.mem_singleton_self 0)
    (by rw [duties_cell V (dstD b c) (.recv b (par u) sub), duties_recv b sub hu]; exact Finset.mem_singleton_self 0)
    u 0 N (RP_credit b (par u) sub) (amount_cell V c (.send b (par u) sub) _ _) (amount_cell V (dstD b c) (.recv b (par u) sub) _ _)
    (owedOf c l) (owedOf_cons c (.send b u sub) l)
    (by rw [payload_cell V c (.send b (par u) sub), payOf_send]; exact .rfl)
    hpay) $$ [Hr Hwu How Ht1 Ht2 Hre Hrd]
  · isplitr; · iapply (ctx_inv V K J ιwm c (.send b (par u) sub)) $$ Hctx
    isplitr; · iapply (ctx_inv V K J ιwm (dstD b c) (.recv b (par u) sub)) $$ Hctx
    isplitl [Hr]; · iexact Hr
    isplitl [Hwu]; · iexact Hwu
    isplitl [How]; · iexact How
    isplitl [Ht2]; · iexact Ht2
    isplitl [Hre]; · iexact Hre
    isplitl [Ht1]; · iexact Ht1
    iexact Hrd
  iintro ⟨Hcr, How⟩
  iapply wpc_ret
  iapply Hk
  isplitl [Hl Hat Hcr]
  · isplitl [Hl]; · iexact Hl
    isplitl [Hat] <;> iassumption
  isplitl [How]
  · iexists _; iexact How
  · iexact Htk

end Cert.KernelIdeal.Ring

end
-- ==== Proof.KernelIdealCredits.lean ====
/-
  The ring's signals: the barrier by which the neighbours lend their receive pieces for the first two uses, and
  the credits by which they lend them again.
-/
module

public import proofs.«01_k».proof.Proof.KernelIdealSends

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

variable (V : Fin 2 → ℕ → Fin 2 → Dev nD → Vec F S1024x1024 .bf16)
variable (K : Dev nD × Cell → ℕ) (J : Key → ℕ) (ιwm : ℕ)

/-! ## The barrier -/

theorem bar_duty (b : Fin 2) : b.val ∈ dutiesOf .bar 0 := by revert b; decide

/-- One signal of the barrier. -/
theorem signal_bar (c : Dev nD) (b : Fin 2) (l : List Pay) :
    Runs c iprop(ctx V K J ιwm ∗ barPay V c b ∗ Owing c (.bar b :: l)) (semSignalWord (upD b c) barS 1#32) (Owing c l) := by
  intro Q
  unfold Owing
  rw [toks_cons, tok_bar]
  simp only [semSignalWord, Prog.lift, Prog.bind_op, Prog.bind_ret, Prog.pure_eq_ret]
  iintro ⟨#Hctx, Hpay, ⟨%W, How⟩, Htk, Htks⟩ Hk
  have hpay : barPay V c b ⊢ (Rd V).payload (cell (upD b c) .bar) 0 b.val := by
    rw [payload_cell]; show barPay V c b ⊢ barPay V (dstD (par b.val) (upD b c)) (par b.val); rw [par_val, dst_up]
  ihave Hpay := hpay $$ Hpay
  iapply (wp_signal 𝒱₀ ER (Rd V) (c : Thread nD τ) none (dst := (upD b c : Thread nD τ)) (sem := barS) (r := 0) (κ := K (upD b c, .bar)) (d := b.val)
    (by rw [duties_cell V (upD b c) .bar]; exact bar_duty b)
    (amount_cell V (upD b c) .bar 0 _) 0 (owedOf c l) (owedOf_cons c (.bar b) l)) $$ [How Htk Hpay]
  · isplitr; · iapply (ctx_inv V K J ιwm (upD b c) .bar) $$ Hctx
    isplitl [How]; · iexact How
    isplitl [Htk]; · iexact Htk
    isplitl [Hpay]; · iexact Hpay
    iapply (ctx_reached V K J ιwm (upD b c) .bar) $$ Hctx
  iintro How
  iapply wpc_ret
  iapply Hk
  isplitl [How]
  · iexists _; iexact How
  · iexact Htks

/-- The wait of the barrier. -/
theorem wait_bar (c : Dev nD) (l : List Pay) (hl : Above 1 l) :
    Runs c iprop(ctx V K J ιwm ∗ atPos ER (cell c .bar) 0 ∅ 0 ∗ cred (tallyAt (cell c .bar) 0 2) ∗ Owing c l) (semWaitWord barS 2#32)
      iprop(barPay V (dstD 0 c) 0 ∗ barPay V (dstD 1 c) 1 ∗ atPos ER (cell c .bar) 1 ∅ 0 ∗ Owing c l) := by
  intro Q
  unfold Owing
  simp only [semWaitWord, Prog.lift, Prog.bind_op, Prog.bind_ret, Prog.pure_eq_ret]
  iintro ⟨#Hctx, Hat, Hcr, ⟨%W, How⟩, Htk⟩ Hk
  iapply (wp_wait_rest_token 𝒱₀ ER (Rd V) (c : Thread nD τ) none (κ := K (c, .bar)) (wpE_semWait_eq 𝒱₀ (c : Thread nD τ) none Set.univ)
    (Set.mem_univ _) 0 (R := 0) (m := 0) (T := ∅) (k' := 2) (by rw [expect_cell V c .bar]; decide)) $$ [Hcr How Hat]
  · isplitr; · iapply (ctx_inv V K J ιwm c .bar) $$ Hctx
    isplitl [Hcr]; · iexact Hcr
    isplitl [How]; · iexact How
    isplitr
    · ihave Hlev := (ctx_lev V K J ιwm) $$ Hctx
      iapply (mayWait c (.reg barS) 0 l (by decide) fun p hp => ⟨by rw [lev_cell c .bar]; exact (hl p hp).1, (hl p hp).2⟩) $$ Hlev
    · iexact Hat
  iintro ⟨How, Hat, Hre, Hpay⟩
  have hpay : (bigSep ((Rd V).duties (cell c .bar) 0 \ ∅) fun d => (Rd V).payload (cell c .bar) 0 d)
      ⊢ (iprop(barPay V (dstD 0 c) 0 ∗ barPay V (dstD 1 c) 1) : sProp 𝕄) := by
    rw [duties_cell, Finset.sdiff_empty]
    have e : dutiesOf .bar 0 = insert 0 {1} := rfl
    rw [e, bigSep_insert (by decide), bigSep_singleton, payload_cell, payload_cell]
    exact .rfl
  ihave Hp := hpay $$ Hpay
  icases Hp with ⟨H0, H1⟩
  iapply wpc_ret
  iapply Hk
  isplitl [H0]; · iexact H0
  isplitl [H1]; · iexact H1
  isplitl [Hat]; · iexact Hat
  isplitl [How]
  · iexists _; iexact How
  · iexact Htk

/-- The barrier: the device lends its receive pieces for the first two uses, and is lent its neighbours'. -/
theorem run_handshake (c : Dev nD) (l : List Pay) (hl : Above 1 l) :
    Runs c iprop(ctx V K J ιwm ∗ barPay V c 0 ∗ barPay V c 1 ∗ atPos ER (cell c .bar) 0 ∅ 0 ∗ cred (tallyAt (cell c .bar) 0 2)
        ∗ Owing c (.bar 0 :: .bar 1 :: l)) (handshake c)
      iprop(barPay V (dstD 0 c) 0 ∗ barPay V (dstD 1 c) 1 ∗ atPos ER (cell c .bar) 1 ∅ 0 ∗ Owing c l) := by
  intro Q
  unfold handshake
  iintro ⟨#Hctx, H0, H1, Hat, Hcr, How⟩ Hk
  iapply (signal_bar V K J ιwm c 0 _).run $$ [H0 How]
  · isplitr; · iexact Hctx
    isplitl [H0] <;> iassumption
  iintro How
  iapply (signal_bar V K J ιwm c 1 _).run $$ [H1 How]
  · isplitr; · iexact Hctx
    isplitl [H1] <;> iassumption
  iintro How
  iapply (wait_bar V K J ιwm c l hl Q) $$ [Hat Hcr How] Hk
  isplitr; · iexact Hctx
  isplitl [Hat]; · iexact Hat
  isplitl [Hcr] <;> iassumption

/-! ## Credits -/

/-- One credit: the device has put back its receive pieces below `n + 1`. -/
theorem give_credit (c : Dev nD) (b : Fin 2) {n : ℕ} (hn : n < 10) (l : List Pay) :
    Runs c iprop(ctx V K J ιwm ∗ Rel c b (n + 1) ∗ Owing c (.cred b n :: l)) (giveCredit c b) (Owing c l) := by
  intro Q
  unfold Owing
  rw [toks_cons, tok_cred]
  simp only [giveCredit, semSignalWord, Prog.lift, Prog.bind_op, Prog.bind_ret, Prog.pure_eq_ret]
  iintro ⟨#Hctx, Hpay, ⟨%W, How⟩, Htk, Htks⟩ Hk
  have hpay : Rel c b (n + 1) ⊢ (Rd V).payload (cell (upD b c) (.cred b)) 0 n := by
    rw [payload_cell]; show Rel c b (n + 1) ⊢ Rel (dstD b (upD b c)) b (n + 1); rw [dst_up]
  ihave Hpay := hpay $$ Hpay
  iapply (wp_signal 𝒱₀ ER (Rd V) (c : Thread nD τ) none (dst := (upD b c : Thread nD τ)) (sem := credS b) (r := 0) (κ := K (upD b c, .cred b)) (d := n)
    (by rw [duties_cell V (upD b c) (.cred b)]; exact Finset.mem_range.mpr hn)
    (amount_cell V (upD b c) (.cred b) 0 _) n (owedOf c l) (owedOf_cons c (.cred b n) l)) $$ [How Htk Hpay]
  · isplitr; · iapply (ctx_inv V K J ιwm (upD b c) (.cred b)) $$ Hctx
    isplitl [How]; · iexact How
    isplitl [Htk]; · iexact Htk
    isplitl [Hpay]; · iexact Hpay
    iapply (ctx_reached V K J ιwm (upD b c) (.cred b)) $$ Hctx
  iintro How
  iapply wpc_ret
  iapply Hk
  isplitl [How]
  · iexists _; iexact How
  · iexact Htks

/-- What the credits taken so far say: all of them, and that the cell has that many units taken. -/
def CAt (c : Dev nD) (b : Fin 2) (n : ℕ) : sProp 𝕄 :=
  if n = 10 then atPos ER (cell c (.cred b)) 1 ∅ 0
  else iprop(∃ T : Finset ℕ, ⌜T ⊆ Finset.range 10 ∧ n ≤ T.card⌝ ∗ atPos ER (cell c (.cred b)) 0 T n
    ∗ bigSep T fun d => Rel (dstD b c) b (d + 1))

theorem CAt_zero (c : Dev nD) (b : Fin 2) : atPos ER (cell c (.cred b)) 0 ∅ 0 ⊢ (CAt c b 0 : sProp 𝕄) := by
  unfold CAt
  rw [if_neg (by decide)]
  iintro H
  iexists ∅
  isplitr; · ipureintro; exact ⟨Finset.empty_subset _, Nat.zero_le _⟩
  isplitl [H]; · iexact H
  rw [bigSep_empty]
  iempintro

/-- A credit at or above `m` says that piece `m` is back. -/
theorem known_back (e : Dev nD) (b : Fin 2) {m : ℕ} {S : Finset ℕ} (h : m < S.card) :
    (bigSep S fun d => (Rel e b (d + 1) : sProp 𝕄)) ⊢ iprop(released ES (key e b m) 1
      ∗ reached ER (cell e (.recv b (par (m / 2 + 2)) (par m))) ((m / 2 + 2) / 2)) := by
  obtain ⟨d, hd, hmd⟩ : ∃ d ∈ S, m ≤ d := by
    by_contra hc
    push Not at hc
    have : S ⊆ Finset.range m := fun d hd => Finset.mem_range.mpr (hc d hd)
    have := Finset.card_le_card this
    rw [Finset.card_range] at this
    omega
  have h1 : (bigSep S fun d => (Rel e b (d + 1) : sProp 𝕄)) ⊢ Rel e b (d + 1) := bigSep_elim (i := d) hd
  refine h1.trans ?_
  unfold Rel
  exact bigSep_elim (i := m) (Finset.mem_range.mpr (by omega))

/-- Taking one credit: the neighbour's receive piece for the use it allows. -/
theorem take_credit (c : Dev nD) (b : Fin 2) {m u : ℕ} {sub : Fin 2} (hm : m < 10) (hu : m / 2 + 2 = u) (hs : par m = sub) (l : List Pay)
    (hl : Above (2 * (m / 2) + 3) l) :
    Runs c iprop(ctx V K J ιwm ∗ CAt c b m ∗ cred (tallyAt (cell c (.cred b)) m 1) ∗ writeTok ES (key (dstD b c) b m) 1 ∗ Owing c l)
      (takeCredit b)
      iprop(CAt c b (m + 1) ∗ grant V (dstD b c) b u sub ∗ reached ER (cell (dstD b c) (.recv b (par u) sub)) (u / 2) ∗ Owing c l) := by
  subst hu hs
  intro Q
  unfold Owing CAt
  rw [if_neg (by omega)]
  simp only [takeCredit, semWaitWord, Prog.lift, Prog.bind_op, Prog.bind_ret, Prog.pure_eq_ret]
  iintro ⟨#Hctx, ⟨%T, %hT, Hat, #Hold⟩, Hcr, Hwt, ⟨%W, How⟩, Htk⟩ Hk
  have hcards : ∀ A B : Finset ℕ, A ⊆ B → (bigSep A fun d => (Rel (dstD b c) b (d + 1) : sProp 𝕄))
      ∗ (bigSep (B \ A) fun d => (Rel (dstD b c) b (d + 1) : sProp 𝕄)) ⊢ bigSep B fun d => Rel (dstD b c) b (d + 1) := fun A B h =>
    by
    have e := bigSep_union (Φ := fun d => (Rel (dstD b c) b (d + 1) : sProp 𝕄)) (Finset.disjoint_sdiff (s := A) (t := B))
    rw [Finset.union_sdiff_of_subset h] at e
    exact Entails.of_eq e.symm
  have hslot : iprop(ctx V K J ιwm ∗ writeTok ES (key (dstD b c) b m) 1 ∗ released ES (key (dstD b c) b m) 1)
      ⊢ (|={Set.univ}=> grant V (dstD b c) b (m / 2 + 2) (par m) : sProp 𝕄) := by
    iintro ⟨#Hctx, Hwt, Hrel⟩
    iapply (slot_take ES (Set.mem_univ (J (key (dstD b c) b m))) 1)
    isplitr; · iapply (ctx_slot V K J ιwm (dstD b c) b hm) $$ Hctx
    isplitl [Hrel] <;> iassumption
  by_cases hlast : m + 1 = 10
  · rw [if_pos hlast]
    iapply (wp_wait_rest_token 𝒱₀ ER (Rd V) (c : Thread nD τ) none (κ := K (c, .cred b)) (wpE_semWait_eq 𝒱₀ (c : Thread nD τ) none Set.univ)
      (Set.mem_univ _) m (R := 0) (m := m) (T := T) (k' := 1) (by rw [expect_cell V c (.cred b)]; exact hlast)) $$ [Hcr How Hat]
    · isplitr; · iapply (ctx_inv V K J ιwm c (.cred b)) $$ Hctx
      isplitl [Hcr]; · iexact Hcr
      isplitl [How]; · iexact How
      isplitr
      · ihave Hlev := (ctx_lev V K J ιwm) $$ Hctx
        iapply (mayWait c (.reg (credS b)) m l (by omega) fun p hp => ⟨by rw [lev_cell c (.cred b)]; exact (hl p hp).1, (hl p hp).2⟩) $$ Hlev
      · iexact Hat
    iintro ⟨How, Hat, -, Hpay⟩
    have hpay : (bigSep ((Rd V).duties (cell c (.cred b)) 0 \ T) fun d => (Rd V).payload (cell c (.cred b)) 0 d)
        ⊢ (bigSep (Finset.range 10 \ T) fun d => (Rel (dstD b c) b (d + 1) : sProp 𝕄)) := by
      rw [duties_cell]
      exact Entails.of_eq (bigSep_congr fun d _ => payload_cell V c (.cred b) 0 d)
    ihave Hp := hpay $$ Hpay
    icombine Hold Hp as Hall
    ihave Hall := (hcards T (Finset.range 10) hT.1) $$ Hall
    ihave Hkn := (known_back (dstD b c) b (m := m) (S := Finset.range 10) (by rw [Finset.card_range]; exact hm)) $$ Hall
    icases Hkn with ⟨Hrel, Hrd⟩
    icombine Hctx Hwt Hrel as H
    imod hslot $$ H with Hg
    iapply wpc_ret
    iapply Hk
    isplitl [Hat]; · iexact Hat
    isplitl [Hg]; · iexact Hg
    isplitl [Hrd]; · iexact Hrd
    isplitl [How]
    · iexists _; iexact How
    · iexact Htk
  · rw [if_neg hlast]
    iapply (Rounds.wp_wait 𝒱₀ ER (Rd V) (c : Thread nD τ) none (κ := K (c, .cred b)) (wpE_semWait_eq 𝒱₀ (c : Thread nD τ) none Set.univ)
      (Set.mem_univ _) (cr := Finsupp.single m 1) {(SemLoc.reg (credS b), m)} (R := 0) (m := m) (T := T) (k' := 1) (Util.total_single _ _)
      (image_single_subset _ m 1)) $$ [Hcr How Hat]
    · isplitr; · iapply (ctx_inv V K J ιwm c (.cred b)) $$ Hctx
      isplitl [Hcr]; · iexact Hcr
      isplitl [How]; · iexact How
      isplitr
      · ihave Hlev := (ctx_lev V K J ιwm) $$ Hctx
        iapply (mayWait c (.reg (credS b)) m l (by omega) fun p hp => ⟨by rw [lev_cell c (.cred b)]; exact (hl p hp).1, (hl p hp).2⟩) $$ Hlev
      · iexact Hat
    iintro %S ⟨%hS, How, Hat, Hpay⟩
    have hdut : (Rd V).duties ((c : Thread nD τ), SemLoc.reg (credS b)) 0 = Finset.range 10 := duties_cell V c (.cred b) 0
    have hexp : (Rd V).expect ((c : Thread nD τ), SemLoc.reg (credS b)) 0 = 10 := by rw [expect_cell V c (.cred b)]; rfl
    rw [hdut, hexp] at hS
    have hcard : m + 1 ≤ S.card := by
      have := Finset.card_sdiff_add_card_eq_card hS.2.1
      rw [Finset.card_range] at this
      omega
    have hpay : (bigSep (S \ T) fun d => (Rd V).payload (cell c (.cred b)) 0 d)
        ⊢ (bigSep (S \ T) fun d => (Rel (dstD b c) b (d + 1) : sProp 𝕄)) :=
      Entails.of_eq (bigSep_congr fun d _ => payload_cell V c (.cred b) 0 d)
    ihave Hp := hpay $$ Hpay
    icombine Hold Hp as Hall
    ihave #Hall := (hcards T S hS.1) $$ Hall
    ihave Hkn := (known_back (dstD b c) b (m := m) (S := S) hcard) $$ Hall
    icases Hkn with ⟨Hrel, Hrd⟩
    icombine Hctx Hwt Hrel as H
    imod hslot $$ H with Hg
    iapply wpc_ret
    iapply Hk
    isplitl [Hat]
    · iexists S
      isplitr; · ipureintro; exact ⟨hS.2.1, hcard⟩
      isplitl [Hat]; · iexact Hat
      iexact Hall
    isplitl [Hg]; · iexact Hg
    isplitl [Hrd]; · iexact Hrd
    isplitl [How]
    · iexists _; iexact How
    · iexact Htk

end Cert.KernelIdeal.Ring

end
-- ==== Proof.KernelIdealLocal.lean ====
/-
  What a device does alone: fetching a tile of the activations or a strip of the weights and casting it, the
  products, the sums, and the values these leave, as functions of the devices' blocks.
-/
module

public import proofs.«01_k».proof.Proof.KernelIdealCredits

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.ValueIdx
open Cert.KernelIdeal.Gen

variable {F : FTy → Type} [FloatOps F]

local notation "𝕄" => MT nD τ sig ℕ (Elt F) ℕ (UU F) ℕ

/-! ## Values -/

variable (A : Dev nD → X.view.ty.Contents (Elt F)) (B : Dev nD → W.view.ty.Contents (Elt F))

/-- The product of a tile and a strip, rounded. -/
def dot1 (x : Vec F S1x1024x1024 .bf16) (w : Vec F S1024x1024 .bf16) : FVec F S1024x1024 .bf16 :=
  truncf .bf16 (matmul dot_S1024x1024_S1024x1024_S1024x1024_1_0_0_1_n_n none
    (shapeCast S1024x1024 x shapeCasts_S1x1024x1024_S1024x1024) w (constant S1024x1024 .f32 0x00000000#32)) bitsLt_bf16_f32

/-- The tile of step `s`, cast. -/
def xt (c : Dev nD) (b : Fin 2) (s : Fin 8) : Vec F S1x1024x1024 .bf16 := castTile ((XC c b s).view.read (Elt F) (A c))
/-- The weights' block, cast. -/
def wbc (c : Dev nD) : WB.view.ty.Contents (Elt F) := truncf (s := S1024x4096) .bf16 (B c) bitsLt_bf16_f32
/-- A strip of the cast weights; a direction's half of them. -/
def wst (c : Dev nD) (b sub : Fin 2) : Vec F S1024x1024 .bf16 := (WB.access (stripR b sub)).read (Elt F) (wbc B c)
def whf (c : Dev nD) (b : Fin 2) : Vec F S1024x2048 .bf16 := (WB.access (halfR b)).read (Elt F) (wbc B c)
/-- The device's own product of step `s`. -/
def own (c : Dev nD) (b : Fin 2) (s : Fin 8) : Vec F S1x1x1024x2048 .bf16 := dotSlot (xt A c b s) (whf B c b)
/-- The piece that device `c` sends at step `s`. -/
def val (b : Fin 2) : ℕ → Fin 2 → Dev nD → Vec F S1024x1024 .bf16
  | 0, sub, c => dot1 (xt A c b 0) (wst B c b sub)
  | s + 1, sub, c => addf (cols sub (own A B c b (Fin.ofNat 8 (s + 1)))) (val b s sub (upD b c))
/-- A strip of the result. -/
def res (c : Dev nD) (b sub : Fin 2) : Vec F S1024x1024 .f32 :=
  maximumf (addf (extf .f32 (cols sub (own A B c b 7)) bitsLt_bf16_f32) (extf .f32 (val A B b 6 sub (upD b c)) bitsLt_bf16_f32))
    (broadcast S1024x1024 (Scalar.ofBits .f32 0x00000000#32))

/-! ## Windows -/

/-- Tile `b` of the cast tiles, holding a value. -/
def xtAt (c : Dev nD) (b : Fin 2) (x : Vec F S1x1024x1024 .bf16) : sProp 𝕄 :=
  (XT.access (tileR b)).loc (c : Thread nD τ) ↦[(XT.access (tileR b)).set]{fullShare} (XT.access (tileR b)).rep x
/-- A strip of the cast weights. -/
def wbAt (c : Dev nD) (b sub : Fin 2) : sProp 𝕄 :=
  (WB.access (stripR b sub)).loc (c : Thread nD τ) ↦[(WB.access (stripR b sub)).set]{fullShare} (wbc B c)
/-- What fetching works with: the device's blocks, the fetched tile's buffer, its semaphore at zero. -/
def fetches (c : Dev nD) : sProp 𝕄 :=
  iprop((X.view.loc (c : Thread nD τ) ↦[Finset.univ]{fullShare} A c) ∗ (W.view.loc (c : Thread nD τ) ↦[Finset.univ]{fullShare} B c)
    ∗ (∃ f, XF.view.loc (c : Thread nD τ) ↦[XF.view.set]{fullShare} f) ∗ semVal ((c : Thread nD τ), SemLoc.dma xfS) 0)

theorem lev_xf (c : Dev nD) (i : ℕ) : lev ((c : Thread nD τ), SemLoc.dma xfS) i = 0 := by
  unfold lev; rw [role_none (show ∀ x ∈ allCells, csem x ≠ .dma xfS by decide)]
theorem lev_out (c : Dev nD) (p : Fin 2) (i : ℕ) : lev ((c : Thread nD τ), SemLoc.dma (outS p)) i = 0 := by
  unfold lev; rw [role_none (show ∀ x ∈ allCells, csem x ≠ .dma (outS p) by revert p; decide)]

variable (V : Fin 2 → ℕ → Fin 2 → Dev nD → Vec F S1024x1024 .bf16)
variable (K : Dev nD × Cell → ℕ) (J : Key → ℕ) (ιwm : ℕ)

/-- What a store through a box leaves: the box holding the stored value. -/
theorem stored {cs : CoreSpace} {sh : Shape} {e : EltTy} (c : Dev nD) (m : Memref sig .tc cs sh e) (r : Rect sh)
    (f : m.view.ty.Contents (Elt F)) (v : r.shape.Idx → Elt F e) :
    ((m.access r).loc (c : Thread nD τ) ↦[(m.access r).set]{fullShare} (m.access r).write (Elt F) f v Finset.univ : sProp 𝕄)
      ⊢ (m.access r).loc (c : Thread nD τ) ↦[(m.access r).set]{fullShare} (m.access r).rep v := by
  refine pts_of_eq fun i hi => ?_
  obtain ⟨y, -, rfl⟩ := Finset.mem_map.mp hi
  exact (View.write_emb_of_mem _ _ (Finset.mem_univ _)).trans (View.rep_emb _ _ _).symm

/-! ## Fetching -/

/-- Bring a window of an array into the fetched tile's buffer. -/
def fetchWindow (src : Memref sig .tc .hbm S1024x1024 .f32) (h : src.view.WordExact) : P (F := F) PUnit := do
  Prog.lift (.enqueueDma src (.here XF) (.dma xfS) h (Memref.isWhole_whole _).wordExact ⟨Or.inl rfl, trivial⟩)
  Prog.lift (.waitDma2 xfS src XF h (Memref.isWhole_whole _).wordExact)

/-- One fetch: a window's contents come into the fetched tile's buffer. -/
theorem run_fetchWindow (c : Dev nD) (src : Memref sig .tc .hbm S1024x1024 .f32) (h : src.view.WordExact)
    (g : Buf (Elt F) (src.view.loc (c : Thread nD τ))) (l : List Pay) (hl : Above 0 l) :
    Runs c iprop(ctx V K J ιwm ∗ (src.view.loc (c : Thread nD τ) ↦[src.view.set]{fullShare} g)
        ∗ (∃ f, XF.view.loc (c : Thread nD τ) ↦[XF.view.set]{fullShare} f) ∗ semVal ((c : Thread nD τ), SemLoc.dma xfS) 0 ∗ Owing c l)
      (fetchWindow src h)
      iprop((src.view.loc (c : Thread nD τ) ↦[src.view.set]{fullShare} g)
            ∗ (XF.view.loc (c : Thread nD τ) ↦[XF.view.set]{fullShare} XF.view.rep (src.view.read (Elt F) g))
            ∗ semVal ((c : Thread nD τ), SemLoc.dma xfS) 0 ∗ Owing c l) := by
  intro Q
  unfold fetchWindow
  simp only [Prog.lift, Prog.bind_op, Prog.bind_ret]
  unfold Owing
  iintro ⟨#Hctx, Hs, ⟨%f, Hd⟩, Hv, ⟨%w, How⟩, Htk⟩ Hk
  iapply (Transfers.wp_dmaLocal EC 𝒱₀ (c : Thread nD τ) none (src := src) (via := .same) (dst := XF) (sm := .dma xfS) 0 XF.view.dmaCredit rfl
    (View.dmaCredit_pos _ (by decide)) subset_rfl) $$ [Hs Hd Hv]
  · isplitl [Hs]; · iexact Hs
    isplitl [Hd] <;> iassumption
  iintro Hfl
  iapply (Transfers.wp_waitLocalO EC 𝒱₀ (c : Thread nD τ) none 0 (N := XF.view.dmaCredit) rfl) $$ [Hfl How]
  · isplitl [Hfl]; · iexact Hfl
    isplitl [How]; · iexact How
    ihave Hlev := (ctx_lev V K J ιwm) $$ Hctx
    iapply (mayWait c (.dma xfS) 0 l (by decide) fun p hp => ⟨by rw [lev_xf c]; exact (hl p hp).1, (hl p hp).2⟩) $$ Hlev
  iintro ⟨⟨Hd, Hs⟩, Hv, How⟩
  iapply wpc_ret
  iapply Hk
  isplitl [Hs]; · iexact Hs
  isplitl [Hd]
  · iapply (pointsTo_rep_of_read (c : Thread nD τ) XF _ fullShare _ (View.read_write_univ (v := XF.view) (Val := Elt F) _ _)) $$ Hd
  isplitl [Hv]; · iexact Hv
  isplitl [How]
  · iexists _; iexact How
  · iexact Htk

theorem run_fetchTile (c : Dev nD) (b : Fin 2) (s : Fin 8) (l : List Pay) (hl : Above 0 l) :
    Runs c iprop(ctx V K J ιwm ∗ fetches A B c ∗ (∃ x, xtAt c b x) ∗ Owing c l) (fetchTile c b s)
      iprop(fetches A B c ∗ xtAt c b (xt A c b s) ∗ Owing c l) := by
  intro Q
  show _ ⊢ iprop(_ -∗ wpc c (fetchWindow (XC c b s) (View.wordExact_bits rfl) >>= fun _ => _) Q)
  unfold fetches xtAt
  iintro ⟨#Hctx, ⟨HX, HW, HF, Hv⟩, ⟨%x, Hx⟩, How⟩ Hk
  ihave HX := (pointsTo_split_subset (ℓ := X.view.loc (c : Thread nD τ)) (Finset.subset_univ (XC c b s).view.set)).1 $$ HX
  icases HX with ⟨Hs, HX⟩
  iapply ((run_fetchWindow V K J ιwm c (XC c b s) _ (A c) l hl).run) $$ [Hs HF Hv How]
  · isplitr; · iexact Hctx
    isplitl [Hs]; · iexact Hs
    isplitl [HF]; · iexact HF
    isplitl [Hv] <;> iassumption
  iintro ⟨Hs, HF, Hv, How⟩
  ihave HX := (pointsTo_split_subset (ℓ := X.view.loc (c : Thread nD τ)) (Finset.subset_univ (XC c b s).view.set)).2 $$ [Hs HX]
  · isplitl [Hs]; · iexact Hs
    iexact HX
  simp only [Prog.lift, Prog.bind_op, Prog.bind_ret]
  iapply (wp_load 𝒱₀ (c : Thread nD τ) none Set.univ (m := XF) (r := fullR.toLoadRect) (View.setOn_subset_set _ _)) $$ HF
  iintro HF
  iapply (wp_load_rect 𝒱₀ (c : Thread nD τ) none Set.univ (m := XT) (r := tileR b) subset_rfl) $$ Hx
  iintro Hx
  iapply (wp_store 𝒱₀ (c : Thread nD τ) none Set.univ (m := XT) (r := tileR b) (Mk := Finset.univ) (View.setOn_subset_set _ _)) $$ Hx
  iintro Hx
  iapply wpc_ret
  iapply Hk
  isplitl [HX HW HF Hv]
  · isplitl [HX]; · iexact HX
    isplitl [HW]; · iexact HW
    isplitl [HF]
    · iexists _; iexact HF
    · iexact Hv
  isplitl [Hx]
  · rw [View.readAt_rep_full]
    iapply (stored c XT (tileR b)) $$ Hx
  · iexact How

theorem run_fetchStrip (c : Dev nD) (b sub : Fin 2) (l : List Pay) (hl : Above 0 l) :
    Runs c iprop(ctx V K J ιwm ∗ fetches A B c ∗ (∃ f, (WB.access (stripR b sub)).loc (c : Thread nD τ)
          ↦[(WB.access (stripR b sub)).set]{fullShare} f) ∗ Owing c l) (fetchStrip b sub)
      iprop(fetches A B c ∗ wbAt B c b sub ∗ Owing c l) := by
  intro Q
  show _ ⊢ iprop(_ -∗ wpc c (fetchWindow (WS b sub) (View.wordExact_bits rfl) >>= fun _ => _) Q)
  unfold fetches wbAt
  iintro ⟨#Hctx, ⟨HX, HW, HF, Hv⟩, ⟨%x, Hx⟩, How⟩ Hk
  ihave HW := (pointsTo_split_subset (ℓ := W.view.loc (c : Thread nD τ)) (Finset.subset_univ (WS b sub).view.set)).1 $$ HW
  icases HW with ⟨Hs, HW⟩
  iapply ((run_fetchWindow V K J ιwm c (WS b sub) _ (B c) l hl).run) $$ [Hs HF Hv How]
  · isplitr; · iexact Hctx
    isplitl [Hs]; · iexact Hs
    isplitl [HF]; · iexact HF
    isplitl [Hv] <;> iassumption
  iintro ⟨Hs, HF, Hv, How⟩
  ihave HW := (pointsTo_split_subset (ℓ := W.view.loc (c : Thread nD τ)) (Finset.subset_univ (WS b sub).view.set)).2 $$ [Hs HW]
  · isplitl [Hs]; · iexact Hs
    iexact HW
  simp only [Prog.lift, Prog.bind_op, Prog.bind_ret]
  iapply (wp_load 𝒱₀ (c : Thread nD τ) none Set.univ (m := XF) (r := fullR.toLoadRect) (View.setOn_subset_set _ _)) $$ HF
  iintro HF
  iapply (wp_load_rect 𝒱₀ (c : Thread nD τ) none Set.univ (m := WB) (r := stripR b sub) subset_rfl) $$ Hx
  iintro Hx
  iapply (wp_store 𝒱₀ (c : Thread nD τ) none Set.univ (m := WB) (r := stripR b sub) (Mk := Finset.univ) (View.setOn_subset_set _ _)) $$ Hx
  iintro Hx
  iapply wpc_ret
  iapply Hk
  isplitl [HX HW HF Hv]
  · isplitl [HX]; · iexact HX
    isplitl [HW]; · iexact HW
    isplitl [HF]
    · iexists _; iexact HF
    · iexact Hv
  isplitl [Hx]
  · rw [View.readAt_rep_full]
    iapply (pts_of_eq fun i hi => ?_) $$ Hx
    obtain ⟨y, -, rfl⟩ := Finset.mem_map.mp hi
    refine (View.write_emb_of_mem _ _ (Finset.mem_univ _)).trans ?_
    unfold castStrip
    rw [shapeCast_self]
    rfl
  · iexact How

/-! ## Products -/

theorem SBslot_sub' (b p : Fin 2) : (SB.access (slotR b p)).setOn Finset.univ ⊆ (SP b p 0).view.set ∪ (SP b p 1).view.set := by
  have h := SBslot_set b p
  exact (View.setOn_subset_set _ _).trans h.subset

/-- Loading and storing a send slot: whatever it held, its halves now hold the columns of the stored value. -/
theorem store_slot (c : Dev nD) (b p : Fin 2) (t : Vec F S1x1x1024x2048 .bf16) {α : Type}
    {k : PUnit → P (F := F) α} {Q : α → sProp 𝕄} {h1 : SB.view.LoadsAt (slotR b p).toLoadRect} {h2 h3} :
    iprop((∃ v, sp c b p 0 fullShare v) ∗ (∃ v, sp c b p 1 fullShare v))
      ⊢ iprop(((sp c b p 0 fullShare (cols 0 t) ∗ sp c b p 1 fullShare (cols 1 t)) -∗ wpc c (k ⟨⟩) Q)
          -∗ wpc c (.op (.load SB (slotR b p).toLoadRect h1) fun _ => .op (.store SB (slotR b p) t Finset.univ h2 h3) k) Q) := by
  unfold sp
  iintro ⟨⟨%v, H0⟩, ⟨%v', H1⟩⟩ Hk
  icombine H0 H1 as H
  ihave Hj := (pointsTo_join (SP_disjoint b p)) $$ H
  iapply (wp_load 𝒱₀ (c : Thread nD τ) none Set.univ (m := SB) (r := (slotR b p).toLoadRect) (SBslot_sub b p (by decide : (0 : Fin 2) ≠ 1))) $$ Hj
  iintro Hj
  iapply (wp_store 𝒱₀ (c : Thread nD τ) none Set.univ (m := SB) (r := slotR b p) (Mk := Finset.univ) (SBslot_sub' b p)) $$ Hj
  iintro Hj
  iapply Hk
  ihave Hj := (pointsTo_union (SP_disjoint b p)).1 $$ Hj
  icases Hj with ⟨H0, H1⟩
  isplitl [H0]
  · iapply (pointsTo_rep_of_read (c : Thread nD τ) (SP b p 0) _ fullShare _ (SP_read_slot b p 0 _ t)) $$ H0
  · iapply (pointsTo_rep_of_read (c : Thread nD τ) (SP b p 1) _ fullShare _ (SP_read_slot b p 1 _ t)) $$ H1

theorem WBhalf_set (b : Fin 2) : (WB.access (halfR b)).set = (WB.access (stripR b 0)).set ∪ (WB.access (stripR b 1)).set :=
  (View.set_slice_whole cc0_scratch2 (halfR b)).trans ((half_eq b).trans
    (congrArg₂ (· ∪ ·) (View.set_slice_whole cc0_scratch2 (stripR b 0)).symm (View.set_slice_whole cc0_scratch2 (stripR b 1)).symm))
theorem WB_disjoint (b : Fin 2) : Disjoint (WB.access (stripR b 0)).set (WB.access (stripR b 1)).set :=
  (congrArg₂ Disjoint (View.set_slice_whole cc0_scratch2 (stripR b 0)) (View.set_slice_whole cc0_scratch2 (stripR b 1))).mpr
    (strips_disjoint (by simp))

theorem run_slotDot (c : Dev nD) (b p : Fin 2) (x : Vec F S1x1024x1024 .bf16) :
    Runs c iprop(xtAt c b x ∗ (wbAt B c b 0 ∗ wbAt B c b 1) ∗ (∃ v, sp c b p 0 fullShare v) ∗ (∃ v, sp c b p 1 fullShare v)) (slotDot b p)
      iprop(xtAt c b x ∗ (wbAt B c b 0 ∗ wbAt B c b 1) ∗ sp c b p 0 fullShare (cols 0 (dotSlot x (whf B c b)))
        ∗ sp c b p 1 fullShare (cols 1 (dotSlot x (whf B c b)))) := by
  intro Q
  unfold slotDot xtAt wbAt
  simp only [Prog.lift, Prog.bind_op, Prog.bind_ret]
  iintro ⟨Hx, HW, Hs⟩ Hk
  iapply (wp_load_rect 𝒱₀ (c : Thread nD τ) none Set.univ (m := XT) (r := tileR b) subset_rfl) $$ Hx
  iintro Hx
  ihave HW := (pointsTo_union (ℓ := WB.view.loc (c : Thread nD τ)) (WB_disjoint b)).2 $$ HW
  iapply (wp_load_rect 𝒱₀ (c : Thread nD τ) none Set.univ (m := WB) (r := halfR b) (WBhalf_set b).subset) $$ HW
  iintro HW
  ihave HW := (pointsTo_union (ℓ := WB.view.loc (c : Thread nD τ)) (WB_disjoint b)).1 $$ HW
  rw [View.read_rep]
  iapply (store_slot c b p) $$ Hs
  iintro Hs
  iapply wpc_ret
  iapply Hk
  isplitl [Hx]; · iexact Hx
  isplitl [HW]; · iexact HW
  iexact Hs

theorem SPpiece_sub (b p sub : Fin 2) : (SB.access (pieceR b p sub)).set ⊆ (SP b p sub).view.set := by
  have h : (SB.access (pieceR b p sub)).set = (pieceR b p sub).set := View.set_slice_whole cc0_scratch3 (pieceR b p sub)
  rw [h, SP_set]
theorem SPpiece_sub' (b p sub : Fin 2) : SB.view.setOn (pieceR b p sub).toLoadRect.set ⊆ (SP b p sub).view.set := by
  have e := SPpiece_sub b p sub
  rwa [View.set_slice] at e

/-- Loading and storing a send piece: whatever it held, it now holds the stored value. -/
theorem store_piece (c : Dev nD) (b p sub : Fin 2) (t : Vec F S1024x1024 .bf16) {α : Type}
    {k : PUnit → P (F := F) α} {Q : α → sProp 𝕄} {h1 : SB.view.LoadsAt (pieceR b p sub).toLoadRect} {h2 h3} :
    iprop(∃ v, sp c b p sub fullShare v)
      ⊢ iprop((sp c b p sub fullShare t -∗ wpc c (k ⟨⟩) Q)
          -∗ wpc c (.op (.load SB (pieceR b p sub).toLoadRect h1) fun _ => .op (.store SB (pieceR b p sub)
            (shapeCast S1x1x1024x1024 t shapeCasts_S1024x1024_S1x1x1024x1024) Finset.univ h2 h3) k) Q) := by
  unfold sp
  iintro ⟨%v, H0⟩ Hk
  iapply (wp_load 𝒱₀ (c : Thread nD τ) none Set.univ (m := SB) (r := (pieceR b p sub).toLoadRect) (SPpiece_sub' b p sub)) $$ H0
  iintro Hj
  iapply (wp_store 𝒱₀ (c : Thread nD τ) none Set.univ (m := SB) (r := pieceR b p sub) (Mk := Finset.univ)
    ((View.setOn_subset_set _ _).trans (SPpiece_sub b p sub))) $$ Hj
  iintro Hj
  iapply Hk
  iapply (pointsTo_rep_of_read (c : Thread nD τ) (SP b p sub) _ fullShare _ (SP_read_store b p sub _ t)) $$ Hj

theorem run_firstDot (c : Dev nD) (b sub : Fin 2) (x : Vec F S1x1024x1024 .bf16) :
    Runs c iprop(xtAt c b x ∗ wbAt B c b sub ∗ (∃ v, sp c b 0 sub fullShare v)) (firstDot b sub)
      iprop(xtAt c b x ∗ wbAt B c b sub ∗ sp c b 0 sub fullShare (dot1 x (wst B c b sub))) := by
  intro Q
  unfold firstDot xtAt wbAt
  simp only [Prog.lift, Prog.bind_op, Prog.bind_ret]
  iintro ⟨Hx, HW, Hs⟩ Hk
  iapply (wp_load_rect 𝒱₀ (c : Thread nD τ) none Set.univ (m := XT) (r := tileR b) subset_rfl) $$ Hx
  iintro Hx
  iapply (wp_load_rect 𝒱₀ (c : Thread nD τ) none Set.univ (m := WB) (r := stripR b sub) subset_rfl) $$ HW
  iintro HW
  rw [View.read_rep]
  iapply (store_piece c b 0 sub) $$ Hs
  iintro Hs
  iapply wpc_ret
  iapply Hk
  isplitl [Hx]; · iexact Hx
  isplitl [HW]; · iexact HW
  iexact Hs

theorem run_addStep (c : Dev nD) (b p q : Fin 2) {sub sub' : Fin 2} (hs : sub ≠ sub') {q' : PosShare TreeShare} (hq : Lends q')
    (v v' w : Vec F S1024x1024 .bf16) {R : sProp 𝕄} (hR : Reads ιwm c b q sub' R) :
    Runs c iprop(wmInv (wmE F) ιwm ∗ (sp c b p sub fullShare v ∗ sp c b p sub' q' v') ∗ rp c b q sub w ∗ R) (addStep b p q sub)
      iprop((sp c b p sub fullShare (addf v w) ∗ sp c b p sub' q' v') ∗ rp c b q sub w ∗ R) := by
  intro Q
  unfold addStep
  simp only [Prog.lift, Prog.bind_op, Prog.bind_ret]
  iintro ⟨#Hi, Hs, Hr, HR⟩ Hk
  iapply (load_SB c b p hs (.inl rfl) hq v v') $$ Hs
  iintro %a %ha ⟨Hs, Hs'⟩
  iapply (load_RB ιwm c b q hs hR w) $$ [Hr HR]
  · isplitr; · iexact Hi
    isplitl [Hr] <;> iassumption
  iintro %a' %ha' ⟨Hr, HR⟩
  unfold addPiece
  rw [ha.1, ha']
  iapply (store_piece c b p sub) $$ [Hs]
  · iexists _; iexact Hs
  iintro Hs
  iapply wpc_ret
  iapply Hk
  isplitl [Hs Hs']
  · isplitl [Hs] <;> iassumption
  isplitl [Hr] <;> iassumption

end Cert.KernelIdeal.Ring

end
-- ==== Proof.KernelIdealSteps.lean ====
/-
  A step of the ring: the device's own products, then for each piece the arrival, the sum, the receive piece put
  back, a credit given and one taken, and the sum on its way to the next device.
-/
module

public import proofs.«01_k».proof.Proof.KernelIdealLocal

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

variable (A : Dev nD → X.view.ty.Contents (Elt F)) (B : Dev nD → W.view.ty.Contents (Elt F))
variable (V : Fin 2 → ℕ → Fin 2 → Dev nD → Vec F S1024x1024 .bf16)
variable (K : Dev nD × Cell → ℕ) (J : Key → ℕ) (ιwm : ℕ)

theorem Above.sub {n m : ℕ} {l l' : List Pay} (h : Above n l) (hm : m ≤ n) (hl : l' ⊆ l) : Above m l' :=
  fun p hp => ⟨hm.trans_lt (h p (hl hp)).1, (h p (hl hp)).2⟩

theorem send_mem (b sub : Fin 2) (r : ℕ) (l : List Pay) : (Pay.send b (r + 1) sub :: l) ⊆ pieceP b sub (r + 1) ++ l := by
  intro p hp
  unfold pieceP
  rcases List.mem_cons.mp hp with rfl | h
  · simp
  · exact List.mem_append_right _ h

/-! ## What a direction has before step `r + 1` -/

/-- How many receive pieces are put back, and how many credits taken, before piece `k` of step `r + 1`. -/
def ramt (r k : ℕ) : ℕ := min 10 (2 * r + k)
def camt (r k : ℕ) : ℕ := if r = 0 then 0 else 2 * (r - 1) + k

theorem ramt_next (r : ℕ) : ramt r 2 = ramt (r + 1) 0 := by unfold ramt; omega
theorem camt_next (r : ℕ) : camt r 2 = camt (r + 1) 0 := by unfold camt; split <;> simp <;> omega

/-- What putting back a receive piece at step `r + 1` takes, and what going on to send there takes. -/
def giveTok (c : Dev nD) (b : Fin 2) (r : ℕ) (sub : Fin 2) : sProp 𝕄 :=
  if r ≤ 4 then iprop(readerAt ES (key c b (2 * r + sub.val)) 0 ∗ cred (tallyAt (cell c (.recv b (par (r + 2)) sub)) (r + 2) N))
  else iprop(emp)
def takeTok (c : Dev nD) (b : Fin 2) (r : ℕ) (sub : Fin 2) : sProp 𝕄 :=
  if r = 0 then grant V (dstD b c) b 1 sub
  else iprop(cred (tallyAt (cell c (.cred b)) (2 * (r - 1) + sub.val) 1) ∗ writeTok ES (key (dstD b c) b (2 * (r - 1) + sub.val)) 1)
/-- The send piece of step `r + 1`'s slot: free, or two uses ago on its way out. -/
def Prev (c : Dev nD) (b : Fin 2) (r : ℕ) (sub : Fin 2) : sProp 𝕄 :=
  if r = 0 then iprop((∃ v, sp c b (par 1) sub fullShare v) ∗ Idle c b 1 sub) else Flight V c b (r - 1) sub
/-- The receive piece of use `r + 1`: awaited, or done with. -/
def Nxt (c : Dev nD) (b : Fin 2) (r : ℕ) (sub : Fin 2) : sProp 𝕄 :=
  if r ≤ 5 then Await V c b (r + 1) sub else iprop(RIdle c b (r + 1) sub ∗ ∃ v, rp c b (par (r + 1)) sub v)

theorem reads_await (c : Dev nD) (b sub : Fin 2) (u : ℕ) : Reads ιwm c b (par u) sub (Await V c b u sub) :=
  reads_frame _ (reads_rw ιwm c b (par u) sub fullShare.left (V b u sub (upD b c)) ∅)

theorem reads_nxt (c : Dev nD) (b sub : Fin 2) (r : ℕ) : Reads ιwm c b (par r) sub (Nxt V c b (r + 1) sub) := by
  unfold Nxt
  have hp : par (r + 1 + 1) = par r := par_add_two r
  split
  · have h := reads_await V ιwm c b sub (r + 1 + 1)
    rwa [hp] at h
  · rw [hp]
    unfold Reads
    iintro ⟨Hi, HR, ⟨%v, H⟩⟩
    have h := reads_rp ιwm c b (par r) sub v
    unfold Reads at h
    icombine Hi H as H
    imod h $$ H with ⟨%cur, Hp, Hcl⟩
    imodintro
    iexists cur
    isplitl [Hp]; · iexact Hp
    iintro Hp
    imod Hcl $$ Hp with H
    imodintro
    isplitl [HR]; · iexact HR
    iexists _; iexact H

/-! ## One piece of a step -/

theorem run_stepPiece (c : Dev nD) (b : Fin 2) {sub sub' : Fin 2} (hs : sub ≠ sub') (r : ℕ) (hr : r ≤ 5) {q' : PosShare TreeShare}
    (hq : Lends q') (v v' : Vec F S1024x1024 .bf16) {R : sProp 𝕄} (hR : Reads ιwm c b (par r) sub' R)
    (hv : addf v (V b r sub (upD b c)) = V b (r + 1) sub c) (l : List Pay) (hl : Above (2 * r + 2) (pieceP b sub (r + 1) ++ l)) :
    Runs c iprop(ctx V K J ιwm ∗ Await V c b r sub ∗ (sp c b (par (r + 1)) sub fullShare v ∗ sp c b (par (r + 1)) sub' q' v')
        ∗ Idle c b (r + 1) sub ∗ R ∗ Rel c b (ramt r sub.val) ∗ CAt c b (camt r sub.val) ∗ giveTok c b r sub ∗ takeTok V c b r sub
        ∗ Owing c (pieceP b sub (r + 1) ++ l))
      (stepPiece c b sub (r + 1))
      iprop(Flight V c b (r + 1) sub ∗ sp c b (par (r + 1)) sub' q' v' ∗ R ∗ Rel c b (ramt r (sub.val + 1))
        ∗ CAt c b (camt r (sub.val + 1)) ∗ Nxt V c b (r + 1) sub ∗ Owing c l) := by
  intro Q
  have hsub := sub.isLt
  show _ ⊢ iprop(_ -∗ wpc c (waitRecv b (par r) sub >>= fun _ => addStep b (par (r + 1)) (par r) sub >>= fun _ => _) Q)
  iintro ⟨#Hctx, Haw, Hsp, Hid, HR, Hrel, Hc, Hg, Ht, How⟩ Hk
  iapply ((wait_recv V K J ιwm c b (u := r) (by omega) sub _ hl).run) $$ [Haw How]
  · isplitr; · iexact Hctx
    isplitl [Haw] <;> iassumption
  iintro ⟨Hrp, Hri, How⟩
  iapply ((run_addStep ιwm c b (par (r + 1)) (par r) hs hq v v' _ hR).run) $$ [Hsp Hrp HR]
  · isplitr
    · iapply (ctx_wm V K J ιwm) $$ Hctx
    isplitl [Hsp]; · iexact Hsp
    isplitl [Hrp] <;> iassumption
  rw [hv]
  iintro ⟨⟨Hsp, Hsp'⟩, Hrp, HR⟩
  have hpar : par (r + 2) = par r := par_add_two r
  have hpar1 : par (r + 1 + 1) = par r := par_add_two r
  have hsub' : (⟨sub.val % 2, Nat.mod_lt _ (by decide)⟩ : Fin 2) = sub := Fin.ext (by show sub.val % 2 = sub.val; omega)
  rcases (show r = 0 ∨ (1 ≤ r ∧ r ≤ 4) ∨ r = 5 by omega) with rfl | ⟨h1, h4⟩ | rfl
  · -- the first step: the receive piece is put back, no credit is needed yet
    have e1 : ramt 0 sub.val = 2 * 0 + sub.val := by unfold ramt; omega
    have e2 : ramt 0 (sub.val + 1) = 2 * 0 + sub.val + 1 := by unfold ramt; omega
    unfold giveTok takeTok Nxt
    simp only [show (0 : ℕ) ≤ 4 by decide, show 0 + 1 ≤ 5 by decide, show ¬ 2 ≤ 0 + 1 by decide, if_true, if_false, e1, e2]
    icases Hg with ⟨Hrd, Hcr⟩
    imod (give_back V K J ιwm c b (m := 2 * 0 + sub.val) (u := 0 + 2) (sub := sub) (by omega) (by omega)
      (Fin.ext (by show (2 * 0 + sub.val) % 2 = sub.val; omega)) _) $$ [Hrp Hri Hrd Hcr Hrel] with ⟨Haw, #Hrel⟩
    · isplitr; · iexact Hctx
      isplitl [Hrp]; · rw [hpar]; iexact Hrp
      isplitl [Hri]; · iexact Hri
      isplitl [Hrd]; · iexact Hrd
      isplitl [Hcr] <;> iassumption
    iapply ((give_credit V K J ιwm c b (n := 2 * 0 + sub.val) (by omega) (.send b (0 + 1) sub :: l)).run) $$ [How]
    · isplitr; · iexact Hctx
      isplitr; · iexact Hrel
      iexact How
    iintro How
    iapply (send_piece V K J ιwm c b (u := 0 + 1) (by omega) sub l Q) $$ [Hsp Hid Ht How]
    · isplitr; · iexact Hctx
      isplitl [Hsp]; · iexact Hsp
      isplitl [Hid]; · iexact Hid
      isplitl [Ht]; · iexact Ht
      isplitr
      · iapply (ctx_reached V K J ιwm (dstD b c) (.recv b (par (0 + 1)) sub)) $$ Hctx
      · iexact How
    iintro ⟨Hfl, How⟩
    iapply Hk
    isplitl [Hfl]; · iexact Hfl
    isplitl [Hsp']; · iexact Hsp'
    isplitl [HR]; · iexact HR
    isplitr; · iexact Hrel
    isplitl [Hc]; · iexact Hc
    isplitl [Haw] <;> iassumption
  · -- a step in the middle: a receive piece is put back, a credit is given, one is taken
    have e1 : ramt r sub.val = 2 * r + sub.val := by unfold ramt; omega
    have e2 : ramt r (sub.val + 1) = 2 * r + sub.val + 1 := by unfold ramt; omega
    have e3 : camt r sub.val = 2 * (r - 1) + sub.val := by unfold camt; rw [if_neg (by omega)]
    have e4 : camt r (sub.val + 1) = 2 * (r - 1) + sub.val + 1 := by unfold camt; rw [if_neg (by omega)]; omega
    unfold giveTok takeTok Nxt
    simp only [h4, show r + 1 ≤ 5 by omega, show 2 ≤ r + 1 by omega, show ¬ r = 0 by omega, if_true, if_false, e1, e2, e3, e4]
    icases Hg with ⟨Hrd, Hcr⟩
    icases Ht with ⟨Htc, Hwt⟩
    imod (give_back V K J ιwm c b (m := 2 * r + sub.val) (u := r + 2) (sub := sub) (by omega) (by omega)
      (Fin.ext (by show (2 * r + sub.val) % 2 = sub.val; omega)) _) $$ [Hrp Hri Hrd Hcr Hrel] with ⟨Haw, #Hrel⟩
    · isplitr; · iexact Hctx
      isplitl [Hrp]; · rw [hpar]; iexact Hrp
      isplitl [Hri]; · iexact Hri
      isplitl [Hrd]; · iexact Hrd
      isplitl [Hcr] <;> iassumption
    iapply ((give_credit V K J ιwm c b (n := 2 * r + sub.val) (by omega) (.send b (r + 1) sub :: l)).run) $$ [How]
    · isplitr; · iexact Hctx
      isplitr; · iexact Hrel
      unfold pieceP
      simp only [show r + 1 ≤ 5 by omega, if_true, Nat.add_sub_cancel, List.cons_append, List.nil_append]
      iexact How
    iintro How
    iapply ((take_credit V K J ιwm c b (m := 2 * (r - 1) + sub.val) (u := r + 1) (sub := sub) (by omega) (by omega)
      (Fin.ext (by show (2 * (r - 1) + sub.val) % 2 = sub.val; omega)) (.send b (r + 1) sub :: l)
      (hl.sub (by omega) (send_mem b sub r l))).run) $$ [Hc Htc Hwt How]
    · isplitr; · iexact Hctx
      isplitl [Hc]; · iexact Hc
      isplitl [Htc]; · iexact Htc
      isplitl [Hwt] <;> iassumption
    iintro ⟨Hc, Hgr, #Hre, How⟩
    iapply (send_piece V K J ιwm c b (u := r + 1) (by omega) sub l Q) $$ [Hsp Hid Hgr How]
    · isplitr; · iexact Hctx
      isplitl [Hsp]; · iexact Hsp
      isplitl [Hid]; · iexact Hid
      isplitl [Hgr]; · iexact Hgr
      isplitr; · iexact Hre
      iexact How
    iintro ⟨Hfl, How⟩
    iapply Hk
    isplitl [Hfl]; · iexact Hfl
    isplitl [Hsp']; · iexact Hsp'
    isplitl [HR]; · iexact HR
    isplitr; · iexact Hrel
    isplitl [Hc]; · iexact Hc
    isplitl [Haw] <;> iassumption
  · -- the last step: the receive piece is done with
    have e1 : ramt 5 sub.val = ramt 5 (sub.val + 1) := by unfold ramt; omega
    have e3 : camt 5 sub.val = 8 + sub.val := by unfold camt; simp
    have e4 : camt 5 (sub.val + 1) = 8 + sub.val + 1 := by unfold camt; simp; omega
    unfold takeTok Nxt
    simp only [show ¬ 5 + 1 ≤ 5 by decide, show ¬ (5 : ℕ) = 0 by decide, if_false, e1, e3, e4]
    icases Ht with ⟨Htc, Hwt⟩
    iapply ((take_credit V K J ιwm c b (m := 8 + sub.val) (u := 5 + 1) (sub := sub) (by omega) (by omega)
      (Fin.ext (by show (8 + sub.val) % 2 = sub.val; omega)) (.send b (5 + 1) sub :: l)
      (hl.sub (by omega) (send_mem b sub 5 l))).run) $$ [Hc Htc Hwt How]
    · isplitr; · iexact Hctx
      isplitl [Hc]; · iexact Hc
      isplitl [Htc]; · iexact Htc
      isplitl [Hwt]; · iexact Hwt
      iexact How
    iintro ⟨Hc, Hgr, #Hre, How⟩
    iapply (send_piece V K J ιwm c b (u := 5 + 1) (by omega) sub l Q) $$ [Hsp Hid Hgr How]
    · isplitr; · iexact Hctx
      isplitl [Hsp]; · iexact Hsp
      isplitl [Hid]; · iexact Hid
      isplitl [Hgr]; · iexact Hgr
      isplitr; · iexact Hre
      iexact How
    iintro ⟨Hfl, How⟩
    iapply Hk
    isplitl [Hfl]; · iexact Hfl
    isplitl [Hsp']; · iexact Hsp'
    isplitl [HR]; · iexact HR
    isplitl [Hrel]; · iexact Hrel
    isplitl [Hc]; · iexact Hc
    isplitl [Hri Hrp]
    · isplitl [Hri]; · iexact Hri
      iexists _
      rw [hpar1]; iexact Hrp
    · iexact How

/-! ## A direction's product -/

theorem run_stepDot (c : Dev nD) (b : Fin 2) (s : Fin 8) (r : ℕ) (hr : r ≤ 6) (hs : s.val = r + 1) (l : List Pay) (hl : Above 0 l) :
    Runs c iprop(ctx V K J ιwm ∗ fetches A B c ∗ (∃ x, xtAt c b x) ∗ (wbAt B c b 0 ∗ wbAt B c b 1) ∗ Prev V c b r 0 ∗ Prev V c b r 1
        ∗ Owing c l) (stepDot c b s)
      iprop(fetches A B c ∗ (∃ x, xtAt c b x) ∗ (wbAt B c b 0 ∗ wbAt B c b 1)
        ∗ (sp c b (par (r + 1)) 0 fullShare (cols 0 (own A B c b s)) ∗ Idle c b (r + 1) 0)
        ∗ (sp c b (par (r + 1)) 1 fullShare (cols 1 (own A B c b s)) ∗ Idle c b (r + 1) 1) ∗ Owing c l) := by
  have main : Runs c iprop(ctx V K J ιwm ∗ fetches A B c ∗ (∃ x, xtAt c b x) ∗ (wbAt B c b 0 ∗ wbAt B c b 1)
        ∗ ((∃ v, sp c b (par (r + 1)) 0 fullShare v) ∗ Idle c b (r + 1) 0) ∗ ((∃ v, sp c b (par (r + 1)) 1 fullShare v) ∗ Idle c b (r + 1) 1)
        ∗ Owing c l) (fetchTile c b s >>= fun _ => slotDot b (par s.val))
      iprop(fetches A B c ∗ (∃ x, xtAt c b x) ∗ (wbAt B c b 0 ∗ wbAt B c b 1)
        ∗ (sp c b (par (r + 1)) 0 fullShare (cols 0 (own A B c b s)) ∗ Idle c b (r + 1) 0)
        ∗ (sp c b (par (r + 1)) 1 fullShare (cols 1 (own A B c b s)) ∗ Idle c b (r + 1) 1) ∗ Owing c l) := by
    intro Q
    rw [hs]
    iintro ⟨#Hctx, Hf, Hx, HW, ⟨Hs0, Hi0⟩, ⟨Hs1, Hi1⟩, How⟩ Hk
    iapply ((run_fetchTile A B V K J ιwm c b s l hl).run) $$ [Hf Hx How]
    · isplitr; · iexact Hctx
      isplitl [Hf]; · iexact Hf
      isplitl [Hx] <;> iassumption
    iintro ⟨Hf, Hx, How⟩
    iapply (run_slotDot B c b (par (r + 1)) (xt A c b s) Q) $$ [Hx HW Hs0 Hs1]
    · isplitl [Hx]; · iexact Hx
      isplitl [HW]; · iexact HW
      isplitl [Hs0] <;> iassumption
    iintro ⟨Hx, HW, Hs0, Hs1⟩
    iapply Hk
    isplitl [Hf]; · iexact Hf
    isplitl [Hx]; · iexists _; iexact Hx
    isplitl [HW]; · iexact HW
    isplitl [Hs0 Hi0]; · isplitl [Hs0]; · iexact Hs0
                         iexact Hi0
    isplitl [Hs1 Hi1]; · isplitl [Hs1]; · iexact Hs1
                         iexact Hi1
    iexact How
  rcases Nat.eq_zero_or_pos r with rfl | h1
  · have hlt : ¬ 2 ≤ s.val := by omega
    unfold stepDot
    simp only [hlt, if_false]
    unfold Prev
    simp only [if_true]
    exact main
  · have hlt : 2 ≤ s.val := by omega
    have e : r - 1 + 2 = r + 1 := by omega
    have hp : par s.val = par (r - 1) := by rw [hs, ← par_add_two (r - 1), e]
    unfold stepDot
    simp only [hlt, if_true]
    unfold Prev
    simp only [show ¬ r = 0 by omega, if_false]
    intro Q
    iintro ⟨#Hctx, Hf, Hx, HW, Hp0, Hp1, How⟩ Hk
    rw [hp]
    iapply ((wait_send V K J ιwm c b (u := r - 1) (by omega) 0 l hl).run) $$ [Hp0 How]
    · isplitr; · iexact Hctx
      isplitl [Hp0] <;> iassumption
    iintro ⟨Hs0, Hi0, How⟩
    iapply ((wait_send V K J ιwm c b (u := r - 1) (by omega) 1 l hl).run) $$ [Hp1 How]
    · isplitr; · iexact Hctx
      isplitl [Hp1] <;> iassumption
    iintro ⟨Hs1, Hi1, How⟩
    rw [← hp, e, hs]
    rw [hs] at main
    iapply (main Q) $$ [Hf Hx HW Hs0 Hi0 Hs1 Hi1 How]
    · isplitr; · iexact Hctx
      isplitl [Hf]; · iexact Hf
      isplitl [Hx]; · iexact Hx
      isplitl [HW]; · iexact HW
      isplitl [Hs0 Hi0]
      · isplitl [Hs0]
        · iexists _; iexact Hs0
        · iexact Hi0
      isplitl [Hs1 Hi1]
      · isplitl [Hs1]
        · iexists _; iexact Hs1
        · iexact Hi1
      iexact How
    iexact Hk

/-! ## A step -/

/-- The rights to the pieces put back from step `r + 1` on. -/
def futs (c : Dev nD) (b : Fin 2) (r : ℕ) (sub : Fin 2) : sProp 𝕄 :=
  bigSep (Finset.Icc r 5) fun r' => iprop(giveTok c b r' sub ∗ takeTok V c b r' sub)

/-- A piece before step `r + 1`. -/
def Pc (c : Dev nD) (b : Fin 2) (r : ℕ) (sub : Fin 2) : sProp 𝕄 :=
  iprop(Prev V c b r sub ∗ Flight V c b r sub ∗ Await V c b r sub ∗ Nxt V c b r sub ∗ futs V c b r sub)

/-- A direction before step `r + 1`. -/
def Dir (c : Dev nD) (b : Fin 2) (r : ℕ) : sProp 𝕄 :=
  iprop((∃ x, xtAt c b x) ∗ (wbAt B c b 0 ∗ wbAt B c b 1) ∗ Rel c b (ramt r 0) ∗ CAt c b (camt r 0) ∗ Pc V c b r 0 ∗ Pc V c b r 1)

theorem futs_peel (c : Dev nD) (b : Fin 2) (r : ℕ) (sub : Fin 2) (hr : r ≤ 5) :
    futs V c b r sub ⊢ iprop((giveTok c b r sub ∗ takeTok V c b r sub) ∗ futs V c b (r + 1) sub) := by
  unfold futs
  have e : Finset.Icc r 5 = insert r (Finset.Icc (r + 1) 5) := by
    ext x; simp only [Finset.mem_Icc, Finset.mem_insert]; omega
  rw [e, bigSep_insert (by simp)]
  exact Entails.of_eq rfl

/-- The sums going round: each is a device's own product and what came from upstream. -/
def Sums : Prop := ∀ (c : Dev nD) (b : Fin 2) (r : ℕ) (s : Fin 8) (sub : Fin 2), s.val = r + 1 →
  addf (cols sub (own A B c b s)) (V b r sub (upD b c)) = V b (r + 1) sub c

theorem run_step (hV : Sums A B V) (c : Dev nD) (s : Fin 8) (r : ℕ) (hr : r ≤ 5) (hs : s.val = r + 1) (l : List Pay)
    (hl : Above (2 * r + 2) (stepP (r + 1) ++ l)) :
    Runs c iprop(ctx V K J ιwm ∗ fetches A B c ∗ Dir B V c 0 r ∗ Dir B V c 1 r ∗ Owing c (stepP (r + 1) ++ l)) (step c s)
      iprop(fetches A B c ∗ Dir B V c 0 (r + 1) ∗ Dir B V c 1 (r + 1) ∗ Owing c l) := by
  have e : stepP (r + 1) ++ l = pieceP 0 0 (r + 1) ++ (pieceP 1 0 (r + 1) ++ (pieceP 0 1 (r + 1) ++ (pieceP 1 1 (r + 1) ++ l))) := by
    unfold stepP; simp only [List.append_assoc]
  rw [e] at hl ⊢
  have hl1 := hl.sub le_rfl (List.subset_append_right _ _)
  have hl2 := hl1.sub le_rfl (List.subset_append_right _ _)
  have hl3 := hl2.sub le_rfl (List.subset_append_right _ _)
  have hprev : ∀ b sub, (Prev V c b (r + 1) sub : sProp 𝕄) = Flight V c b r sub := fun b sub => by
    unfold Prev; rw [if_neg (Nat.succ_ne_zero r), Nat.add_sub_cancel]
  have hnxt : ∀ b sub, (Nxt V c b r sub : sProp 𝕄) = Await V c b (r + 1) sub := fun b sub => by
    unfold Nxt; rw [if_pos hr]
  have hfl : ∀ b sub, (Flight V c b (r + 1) sub : sProp 𝕄) = iprop(sp c b (par (r + 1)) sub fullShare.left (V b (r + 1) sub c)
    ∗ (atPos ER (cell c (.send b (par (r + 1)) sub)) ((r + 1) / 2) ∅ 0 ∗ cred (tallyAt (cell c (.send b (par (r + 1)) sub)) 0 N))) := fun b sub => rfl
  intro Q
  unfold step Dir Pc
  rw [hprev, hprev, hprev, hprev, hnxt, hnxt, hnxt, hnxt, ← ramt_next, ← camt_next, hs]
  iintro ⟨#Hctx, Hf, ⟨Hx, HW, Hrel, Hc, ⟨Hp0, Hf0, Ha0, Hn0, Hu0⟩, ⟨Hp1, Hf1, Ha1, Hn1, Hu1⟩⟩,
    ⟨Hx', HW', Hrel', Hc', ⟨Hp0', Hf0', Ha0', Hn0', Hu0'⟩, ⟨Hp1', Hf1', Ha1', Hn1', Hu1'⟩⟩, How⟩ Hk
  iapply ((run_stepDot A B V K J ιwm c 0 s r (by omega) hs _ (hl.sub (Nat.zero_le _) (List.Subset.refl _))).run) $$ [Hf Hx HW Hp0 Hp1 How]
  · isplitr; · iexact Hctx
    isplitl [Hf]; · iexact Hf
    isplitl [Hx]; · iexact Hx
    isplitl [HW]; · iexact HW
    isplitl [Hp0]; · iexact Hp0
    isplitl [Hp1] <;> iassumption
  iintro ⟨Hf, Hx, HW, ⟨Hs0, Hi0⟩, ⟨Hs1, Hi1⟩, How⟩
  iapply ((run_stepDot A B V K J ιwm c 1 s r (by omega) hs _ (hl.sub (Nat.zero_le _) (List.Subset.refl _))).run) $$ [Hf Hx' HW' Hp0' Hp1' How]
  · isplitr; · iexact Hctx
    isplitl [Hf]; · iexact Hf
    isplitl [Hx']; · iexact Hx'
    isplitl [HW']; · iexact HW'
    isplitl [Hp0']; · iexact Hp0'
    isplitl [Hp1'] <;> iassumption
  iintro ⟨Hf, Hx', HW', ⟨Hs0', Hi0'⟩, ⟨Hs1', Hi1'⟩, How⟩
  ihave Hu0 := (futs_peel V c 0 r 0 hr) $$ Hu0
  icases Hu0 with ⟨⟨Hg, Ht⟩, Hu0⟩
  ihave Hu1 := (futs_peel V c 0 r 1 hr) $$ Hu1
  icases Hu1 with ⟨⟨Hg1, Ht1⟩, Hu1⟩
  ihave Hu0' := (futs_peel V c 1 r 0 hr) $$ Hu0'
  icases Hu0' with ⟨⟨Hg', Ht'⟩, Hu0'⟩
  ihave Hu1' := (futs_peel V c 1 r 1 hr) $$ Hu1'
  icases Hu1' with ⟨⟨Hg1', Ht1'⟩, Hu1'⟩
  iapply ((run_stepPiece V K J ιwm c 0 (sub := 0) (sub' := 1) (by decide) r hr (.inl rfl) _ _ (reads_await V ιwm c 0 1 r)
    (hV c 0 r s 0 hs) _ hl).run) $$ [Ha0 Hs0 Hs1 Hi0 Ha1 Hrel Hc Hg Ht How]
  · isplitr; · iexact Hctx
    isplitl [Ha0]; · iexact Ha0
    isplitl [Hs0 Hs1]
    · isplitl [Hs0] <;> iassumption
    isplitl [Hi0]; · iexact Hi0
    isplitl [Ha1]; · iexact Ha1
    isplitl [Hrel]; · iexact Hrel
    isplitl [Hc]; · iexact Hc
    isplitl [Hg]; · iexact Hg
    isplitl [Ht]; · iexact Ht
    iexact How
  iintro ⟨Hl0, Hs1, Ha1, Hrel, Hc, Hm0, How⟩
  iapply ((run_stepPiece V K J ιwm c 1 (sub := 0) (sub' := 1) (by decide) r hr (.inl rfl) _ _ (reads_await V ιwm c 1 1 r)
    (hV c 1 r s 0 hs) _ hl1).run) $$ [Ha0' Hs0' Hs1' Hi0' Ha1' Hrel' Hc' Hg' Ht' How]
  · isplitr; · iexact Hctx
    isplitl [Ha0']; · iexact Ha0'
    isplitl [Hs0' Hs1']
    · isplitl [Hs0'] <;> iassumption
    isplitl [Hi0']; · iexact Hi0'
    isplitl [Ha1']; · iexact Ha1'
    isplitl [Hrel']; · iexact Hrel'
    isplitl [Hc']; · iexact Hc'
    isplitl [Hg']; · iexact Hg'
    isplitl [Ht']; · iexact Ht'
    iexact How
  iintro ⟨Hl0', Hs1', Ha1', Hrel', Hc', Hm0', How⟩
  ihave Hl0 := (Entails.of_eq (hfl 0 0)) $$ Hl0
  icases Hl0 with ⟨Hs0, Hl0⟩
  iapply ((run_stepPiece V K J ιwm c 0 (sub := 1) (sub' := 0) (by decide) r hr (.inr rfl) _ _ (reads_nxt V ιwm c 0 0 r)
    (hV c 0 r s 1 hs) _ hl2).run) $$ [Ha1 Hs0 Hs1 Hi1 Hm0 Hrel Hc Hg1 Ht1 How]
  · isplitr; · iexact Hctx
    isplitl [Ha1]; · iexact Ha1
    isplitl [Hs0 Hs1]
    · isplitl [Hs1] <;> iassumption
    isplitl [Hi1]; · iexact Hi1
    isplitl [Hm0]; · iexact Hm0
    isplitl [Hrel]; · iexact Hrel
    isplitl [Hc]; · iexact Hc
    isplitl [Hg1]; · iexact Hg1
    isplitl [Ht1]; · iexact Ht1
    iexact How
  iintro ⟨Hl1, Hs0, Hm0, Hrel, Hc, Hm1, How⟩
  ihave Hl0' := (Entails.of_eq (hfl 1 0)) $$ Hl0'
  icases Hl0' with ⟨Hs0', Hl0'⟩
  iapply ((run_stepPiece V K J ιwm c 1 (sub := 1) (sub' := 0) (by decide) r hr (.inr rfl) _ _ (reads_nxt V ιwm c 1 0 r)
    (hV c 1 r s 1 hs) l hl3) Q) $$ [Ha1' Hs0' Hs1' Hi1' Hm0' Hrel' Hc' Hg1' Ht1' How]
  · isplitr; · iexact Hctx
    isplitl [Ha1']; · iexact Ha1'
    isplitl [Hs0' Hs1']
    · isplitl [Hs1'] <;> iassumption
    isplitl [Hi1']; · iexact Hi1'
    isplitl [Hm0']; · iexact Hm0'
    isplitl [Hrel']; · iexact Hrel'
    isplitl [Hc']; · iexact Hc'
    isplitl [Hg1']; · iexact Hg1'
    isplitl [Ht1']; · iexact Ht1'
    iexact How
  iintro ⟨Hl1', Hs0', Hm0', Hrel', Hc', Hm1', How⟩
  iapply Hk
  isplitl [Hf]; · iexact Hf
  isplitl [Hx HW Hrel Hc Hf0 Hf1 Hs0 Hl0 Hl1 Hn0 Hn1 Hm0 Hm1 Hu0 Hu1]
  · isplitl [Hx]; · iexact Hx
    isplitl [HW]; · iexact HW
    isplitl [Hrel]; · iexact Hrel
    isplitl [Hc]; · iexact Hc
    isplitl [Hf0 Hs0 Hl0 Hn0 Hm0 Hu0]
    · isplitl [Hf0]; · iexact Hf0
      isplitl [Hs0 Hl0]
      · iapply (Entails.of_eq (hfl 0 0).symm) $$ [Hs0 Hl0]
        isplitl [Hs0] <;> iassumption
      isplitl [Hn0]; · iexact Hn0
      isplitl [Hm0] <;> iassumption
    · isplitl [Hf1]; · iexact Hf1
      isplitl [Hl1]; · iexact Hl1
      isplitl [Hn1]; · iexact Hn1
      isplitl [Hm1] <;> iassumption
  isplitl [Hx' HW' Hrel' Hc' Hf0' Hf1' Hs0' Hl0' Hl1' Hn0' Hn1' Hm0' Hm1' Hu0' Hu1']
  · isplitl [Hx']; · iexact Hx'
    isplitl [HW']; · iexact HW'
    isplitl [Hrel']; · iexact Hrel'
    isplitl [Hc']; · iexact Hc'
    isplitl [Hf0' Hs0' Hl0' Hn0' Hm0' Hu0']
    · isplitl [Hf0']; · iexact Hf0'
      isplitl [Hs0' Hl0']
      · iapply (Entails.of_eq (hfl 1 0).symm) $$ [Hs0' Hl0']
        isplitl [Hs0'] <;> iassumption
      isplitl [Hn0']; · iexact Hn0'
      isplitl [Hm0'] <;> iassumption
    · isplitl [Hf1']; · iexact Hf1'
      isplitl [Hl1']; · iexact Hl1'
      isplitl [Hn1']; · iexact Hn1'
      isplitl [Hm1'] <;> iassumption
  iexact How

end Cert.KernelIdeal.Ring

end
-- ==== Proof.KernelIdealEnds.lean ====
/-
  Before and after the steps: the barrier and the first products on their way; the last arrivals, the strips of the
  result and their copies out; and the whole body.
-/
module

public import proofs.«01_k».proof.Proof.KernelIdealSteps

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

variable (A : Dev nD → X.view.ty.Contents (Elt F)) (B : Dev nD → W.view.ty.Contents (Elt F))
variable (V : Fin 2 → ℕ → Fin 2 → Dev nD → Vec F S1024x1024 .bf16)
variable (K : Dev nD × Cell → ℕ) (J : Key → ℕ) (ιwm : ℕ)

/-! ## Before the steps -/

/-- The sums' start: a device's product of step 0. -/
def Begins : Prop := ∀ (c : Dev nD) (b sub : Fin 2), dot1 (xt A c b 0) (wst B c b sub) = V b 0 sub c

theorem run_first (hV : Begins A B V) (c : Dev nD) (b sub : Fin 2) (l : List Pay) :
    Runs c iprop(ctx V K J ιwm ∗ xtAt c b (xt A c b 0) ∗ wbAt B c b sub ∗ (∃ v, sp c b 0 sub fullShare v) ∗ Idle c b 0 sub
        ∗ grant V (dstD b c) b 0 sub ∗ Owing c (.send b 0 sub :: l)) (first c b sub)
      iprop(xtAt c b (xt A c b 0) ∗ wbAt B c b sub ∗ Flight V c b 0 sub ∗ Owing c l) := by
  intro Q
  unfold first
  iintro ⟨#Hctx, Hx, HW, Hs, Hi, Hg, How⟩ Hk
  iapply ((run_firstDot B c b sub (xt A c b 0)).run) $$ [Hx HW Hs]
  · isplitl [Hx]; · iexact Hx
    isplitl [HW] <;> iassumption
  rw [hV c b sub]
  iintro ⟨Hx, HW, Hs⟩
  iapply (send_piece V K J ιwm c b (u := 0) (by omega) sub l Q) $$ [Hs Hi Hg How]
  · isplitr; · iexact Hctx
    isplitl [Hs]; · iexact Hs
    isplitl [Hi]; · iexact Hi
    isplitl [Hg]; · iexact Hg
    isplitr
    · iapply (ctx_reached V K J ιwm (dstD b c) (.recv b (par 0) sub)) $$ Hctx
    · iexact How
  iintro ⟨Hfl, How⟩
  iapply Hk
  isplitl [Hx]; · iexact Hx
  isplitl [HW]; · iexact HW
  isplitl [Hfl] <;> iassumption

/-- The rights of a piece from step 1 on, but the permission that the barrier hands over. -/
def futs' (c : Dev nD) (b sub : Fin 2) : sProp 𝕄 :=
  iprop((bigSep (Finset.Icc 0 5) fun r => giveTok c b r sub) ∗ bigSep (Finset.Icc 1 5) fun r => takeTok V c b r sub)
/-- A piece before the first product. -/
def Pc' (c : Dev nD) (b sub : Fin 2) : sProp 𝕄 :=
  iprop(Prev V c b 0 sub ∗ Await V c b 0 sub ∗ Await V c b 1 sub ∗ futs' V c b sub)
/-- A strip of the cast weights, not yet fetched. -/
def wbAny (c : Dev nD) (b sub : Fin 2) : sProp 𝕄 :=
  iprop(∃ f, (WB.access (stripR b sub)).loc (c : Thread nD τ) ↦[(WB.access (stripR b sub)).set]{fullShare} f)
/-- What a direction starts with. -/
def Dir' (c : Dev nD) (b : Fin 2) : sProp 𝕄 :=
  iprop((∃ x, xtAt c b x) ∗ (wbAny c b 0 ∗ wbAny c b 1)
    ∗ (((∃ v, sp c b 0 0 fullShare v) ∗ Idle c b 0 0) ∗ ((∃ v, sp c b 0 1 fullShare v) ∗ Idle c b 0 1))
    ∗ CAt c b 0 ∗ Pc' V c b 0 ∗ Pc' V c b 1)

theorem Pc_intro (c : Dev nD) (b sub : Fin 2) :
    iprop(Pc' V c b sub ∗ Flight V c b 0 sub ∗ grant V (dstD b c) b 1 sub) ⊢ Pc V c b 0 sub := by
  unfold Pc Pc' futs' futs
  rw [bigSep_sep']
  have e : Finset.Icc 0 5 = insert 0 (Finset.Icc 1 5) := by decide
  have h : iprop(takeTok V c b 0 sub ∗ bigSep (Finset.Icc 1 5) fun r => takeTok V c b r sub)
      ⊢ bigSep (Finset.Icc 0 5) fun r => takeTok V c b r sub := by
    rw [e, bigSep_insert (by decide)]; exact Entails.of_eq rfl
  have ht : takeTok V c b 0 sub = grant V (dstD b c) b 1 sub := if_pos rfl
  have hn : Nxt V c b 0 sub = Await V c b 1 sub := if_pos (Nat.zero_le _)
  rw [hn]
  rw [ht] at h
  iintro ⟨⟨Hp, Ha, Hn, Hg, Ht⟩, Hf, Hgr⟩
  isplitl [Hp]; · iexact Hp
  isplitl [Hf]; · iexact Hf
  isplitl [Ha]; · iexact Ha
  isplitl [Hn]; · iexact Hn
  isplitl [Hg]; · iexact Hg
  iapply h
  isplitl [Hgr] <;> iassumption

theorem Dir_intro (c : Dev nD) (b : Fin 2) (x : Vec F S1x1024x1024 .bf16) :
    iprop(xtAt c b x ∗ (wbAt B c b 0 ∗ wbAt B c b 1) ∗ CAt c b 0 ∗ (Pc' V c b 0 ∗ Flight V c b 0 0 ∗ grant V (dstD b c) b 1 0)
      ∗ (Pc' V c b 1 ∗ Flight V c b 0 1 ∗ grant V (dstD b c) b 1 1)) ⊢ Dir B V c b 0 := by
  unfold Dir
  iintro ⟨Hx, HW, Hc, H0, H1⟩
  isplitl [Hx]; · iexists _; iexact Hx
  isplitl [HW]; · iexact HW
  isplitr
  · unfold Rel ramt
    rw [show min 10 (2 * 0 + 0) = 0 by decide, Finset.range_zero, bigSep_empty]
    exact Entails.rfl
  isplitl [Hc]; · iexact Hc
  isplitl [H0]
  · iapply (Pc_intro V c b 0) $$ H0
  · iapply (Pc_intro V c b 1) $$ H1

theorem above_first : Above 1 (firstP ++ restP 1) := by unfold Above; decide

theorem run_prologue (hV : Begins A B V) (c : Dev nD) :
    Runs c iprop(ctx V K J ιwm ∗ fetches A B c ∗ (barPay V c 0 ∗ barPay V c 1 ∗ atPos ER (cell c .bar) 0 ∅ 0
        ∗ cred (tallyAt (cell c .bar) 0 2)) ∗ Dir' V c 0 ∗ Dir' V c 1 ∗ Owing c allP) (prologue c)
      iprop(fetches A B c ∗ atPos ER (cell c .bar) 1 ∅ 0 ∗ Dir B V c 0 0 ∗ Dir B V c 1 0 ∗ Owing c (restP 1)) := by
  have hall : allP = .bar 0 :: .bar 1 :: (firstP ++ restP 1) := rfl
  have hfirst : firstP ++ restP 1 = .send 0 0 0 :: .send 1 0 0 :: .send 0 0 1 :: .send 1 0 1 :: restP 1 := rfl
  have h0 := above_first
  rw [hfirst] at h0
  have h1 : Above 0 _ := h0.sub (Nat.zero_le _) (List.Subset.refl _)
  have h2 := h1.sub le_rfl (List.subset_cons_self _ _)
  have h3 := h2.sub le_rfl (List.subset_cons_self _ _)
  have h4 := h3.sub le_rfl (List.subset_cons_self _ _)
  intro Q
  rw [hall, hfirst]
  unfold prologue Dir' wbAny
  iintro ⟨#Hctx, Hf, ⟨Hb0, Hb1, Hba, Hbc⟩, ⟨Hx, ⟨Hw0, Hw1⟩, ⟨⟨Hs0, Hi0⟩, ⟨Hs1, Hi1⟩⟩, Hc, Hp0, Hp1⟩,
    ⟨Hx', ⟨Hw0', Hw1'⟩, ⟨⟨Hs0', Hi0'⟩, ⟨Hs1', Hi1'⟩⟩, Hc', Hp0', Hp1'⟩, How⟩ Hk
  iapply ((run_handshake V K J ιwm c _ h0).run) $$ [Hb0 Hb1 Hba Hbc How]
  · isplitr; · iexact Hctx
    isplitl [Hb0]; · iexact Hb0
    isplitl [Hb1]; · iexact Hb1
    isplitl [Hba]; · iexact Hba
    isplitl [Hbc] <;> iassumption
  unfold barPay
  iintro ⟨⟨⟨Hg0, Hg1⟩, ⟨Hn0, Hn1⟩⟩, ⟨⟨Hg0', Hg1'⟩, ⟨Hn0', Hn1'⟩⟩, Hba, How⟩
  iapply ((run_fetchTile A B V K J ιwm c 0 0 _ h1).run) $$ [Hf Hx How]
  · isplitr; · iexact Hctx
    isplitl [Hf]; · iexact Hf
    isplitl [Hx] <;> iassumption
  iintro ⟨Hf, Hx, How⟩
  iapply ((run_fetchStrip A B V K J ιwm c 0 0 _ h1).run) $$ [Hf Hw0 How]
  · isplitr; · iexact Hctx
    isplitl [Hf]; · iexact Hf
    isplitl [Hw0] <;> iassumption
  iintro ⟨Hf, Hw0, How⟩
  iapply ((run_first A B V K J ιwm hV c 0 0 _).run) $$ [Hx Hw0 Hs0 Hi0 Hg0 How]
  · isplitr; · iexact Hctx
    isplitl [Hx]; · iexact Hx
    isplitl [Hw0]; · iexact Hw0
    isplitl [Hs0]; · iexact Hs0
    isplitl [Hi0]; · iexact Hi0
    isplitl [Hg0]; · iexact Hg0
    iexact How
  iintro ⟨Hx, Hw0, Hl0, How⟩
  iapply ((run_fetchStrip A B V K J ιwm c 1 0 _ h2).run) $$ [Hf Hw0' How]
  · isplitr; · iexact Hctx
    isplitl [Hf]; · iexact Hf
    isplitl [Hw0'] <;> iassumption
  iintro ⟨Hf, Hw0', How⟩
  iapply ((run_fetchTile A B V K J ιwm c 1 0 _ h2).run) $$ [Hf Hx' How]
  · isplitr; · iexact Hctx
    isplitl [Hf]; · iexact Hf
    isplitl [Hx'] <;> iassumption
  iintro ⟨Hf, Hx', How⟩
  iapply ((run_first A B V K J ιwm hV c 1 0 _).run) $$ [Hx' Hw0' Hs0' Hi0' Hg0' How]
  · isplitr; · iexact Hctx
    isplitl [Hx']; · iexact Hx'
    isplitl [Hw0']; · iexact Hw0'
    isplitl [Hs0']; · iexact Hs0'
    isplitl [Hi0']; · iexact Hi0'
    isplitl [Hg0']; · iexact Hg0'
    iexact How
  iintro ⟨Hx', Hw0', Hl0', How⟩
  iapply ((run_fetchStrip A B V K J ιwm c 0 1 _ h3).run) $$ [Hf Hw1 How]
  · isplitr; · iexact Hctx
    isplitl [Hf]; · iexact Hf
    isplitl [Hw1] <;> iassumption
  iintro ⟨Hf, Hw1, How⟩
  iapply ((run_first A B V K J ιwm hV c 0 1 _).run) $$ [Hx Hw1 Hs1 Hi1 Hg1 How]
  · isplitr; · iexact Hctx
    isplitl [Hx]; · iexact Hx
    isplitl [Hw1]; · iexact Hw1
    isplitl [Hs1]; · iexact Hs1
    isplitl [Hi1]; · iexact Hi1
    isplitl [Hg1]; · iexact Hg1
    iexact How
  iintro ⟨Hx, Hw1, Hl1, How⟩
  iapply ((run_fetchStrip A B V K J ιwm c 1 1 _ h4).run) $$ [Hf Hw1' How]
  · isplitr; · iexact Hctx
    isplitl [Hf]; · iexact Hf
    isplitl [Hw1'] <;> iassumption
  iintro ⟨Hf, Hw1', How⟩
  iapply (run_first A B V K J ιwm hV c 1 1 _ Q) $$ [Hx' Hw1' Hs1' Hi1' Hg1' How]
  · isplitr; · iexact Hctx
    isplitl [Hx']; · iexact Hx'
    isplitl [Hw1']; · iexact Hw1'
    isplitl [Hs1']; · iexact Hs1'
    isplitl [Hi1']; · iexact Hi1'
    isplitl [Hg1']; · iexact Hg1'
    iexact How
  iintro ⟨Hx', Hw1', Hl1', How⟩
  iapply Hk
  isplitl [Hf]; · iexact Hf
  isplitl [Hba]; · iexact Hba
  isplitl [Hx Hw0 Hw1 Hc Hp0 Hl0 Hn0 Hp1 Hl1 Hn1]
  · iapply (Dir_intro B V c 0 _)
    isplitl [Hx]; · iexact Hx
    isplitl [Hw0 Hw1]
    · isplitl [Hw0] <;> iassumption
    isplitl [Hc]; · iexact Hc
    isplitl [Hp0 Hl0 Hn0]
    · isplitl [Hp0]; · iexact Hp0
      isplitl [Hl0] <;> iassumption
    · isplitl [Hp1]; · iexact Hp1
      isplitl [Hl1] <;> iassumption
  isplitl [Hx' Hw0' Hw1' Hc' Hp0' Hl0' Hn0' Hp1' Hl1' Hn1']
  · iapply (Dir_intro B V c 1 _)
    isplitl [Hx']; · iexact Hx'
    isplitl [Hw0' Hw1']
    · isplitl [Hw0'] <;> iassumption
    isplitl [Hc']; · iexact Hc'
    isplitl [Hp0' Hl0' Hn0']
    · isplitl [Hp0']; · iexact Hp0'
      isplitl [Hl0'] <;> iassumption
    · isplitl [Hp1']; · iexact Hp1'
      isplitl [Hl1'] <;> iassumption
  iexact How

/-! ## After the steps -/

/-- Two pieces' sum, widened, and cut off below zero. -/
def relu2 (a b : Vec F S1024x1024 .bf16) : FVec F S1024x1024 .f32 :=
  maximumf (addf (extf .f32 a bitsLt_bf16_f32) (extf .f32 b bitsLt_bf16_f32)) (broadcast S1024x1024 (Scalar.ofBits .f32 0x00000000#32))

/-- A staging slot with its semaphore; a strip of the result, unwritten or written. -/
def stage (c : Dev nD) (p : Fin 2) : sProp 𝕄 :=
  iprop((∃ f, (OT p).view.loc (c : Thread nD τ) ↦[(OT p).view.set]{fullShare} f) ∗ semVal ((c : Thread nD τ), SemLoc.dma (outS p)) 0)
def ocAny (c : Dev nD) (b sub : Fin 2) : sProp 𝕄 :=
  iprop(∃ f, (OC b sub).view.loc (c : Thread nD τ) ↦[(OC b sub).view.set]{fullShare} f)
def ocAt (c : Dev nD) (b sub : Fin 2) (v : Vec F S1024x1024 .f32) : sProp 𝕄 :=
  (OC b sub).view.loc (c : Thread nD τ) ↦[(OC b sub).view.set]{fullShare} (OC b sub).view.rep v
/-- A strip of the result on its way out of a staging slot. -/
def leaving (c : Dev nD) (b sub p : Fin 2) (v : Vec F S1024x1024 .f32) : sProp 𝕄 :=
  iprop(∃ fs fd, ⌜(OT p).view.read (Elt F) fs = v⌝ ∗
    Transfers.Flight EC (c : Thread nD τ) (.dma (outS p)) 0 (OC b sub).view.dmaCredit
      iprop(((OC b sub).view.loc (c : Thread nD τ) ↦[(OC b sub).view.set]{fullShare}
          (OC b sub).view.write (Elt F) fd ((OT p).view.read (Elt F) fs) Finset.univ)
        ∗ ((OT p).view.loc (c : Thread nD τ) ↦[(OT p).view.set]{fullShare} fs)))

theorem OT_set (p : Fin 2) : (OT p).view.set = (tileR p).set :=
  (View.set_reshape _ _).trans (View.set_slice_whole cc0_scratch5 (tileR p))
theorem OTtile_sub (p : Fin 2) : (OS.access (tileR p)).set ⊆ (OT p).view.set := by
  have h : (OS.access (tileR p)).set = (tileR p).set := View.set_slice_whole cc0_scratch5 (tileR p)
  rw [h, OT_set]
theorem OTtile_sub' (p : Fin 2) : OS.view.setOn (tileR p).toLoadRect.set ⊆ (OT p).view.set := by
  have e := OTtile_sub p
  rwa [View.set_slice] at e

theorem run_finish (c : Dev nD) (b : Fin 2) {sub sub' : Fin 2} (hs : sub ≠ sub') (slot : Fin 2) (v v' : Vec F S1024x1024 .bf16)
    {R : sProp 𝕄} (hR : Reads ιwm c b (par 6) sub' R) (l : List Pay) (hl : Above 14 l) :
    Runs c iprop(ctx V K J ιwm ∗ Await V c b 6 sub ∗ (sp c b (par 7) sub fullShare v ∗ sp c b (par 7) sub' fullShare v')
        ∗ R ∗ stage c slot ∗ ocAny c b sub ∗ Owing c l) (finish b sub slot)
      iprop((RIdle c b 8 sub ∗ ∃ w, rp c b (par 6) sub w) ∗ (sp c b (par 7) sub fullShare v ∗ sp c b (par 7) sub' fullShare v')
        ∗ R ∗ leaving c b sub slot (relu2 v (V b 6 sub (upD b c))) ∗ Owing c l) := by
  intro Q
  show _ ⊢ iprop(_ -∗ wpc c (waitRecv b (par 6) sub >>= fun _ => _) Q)
  unfold stage ocAny leaving
  iintro ⟨#Hctx, Ha, Hs, HR, ⟨⟨%f, Ho⟩, Hv⟩, ⟨%g, Hd⟩, How⟩ Hk
  iapply ((wait_recv V K J ιwm c b (u := 6) (by omega) sub _ hl).run) $$ [Ha How]
  · isplitr; · iexact Hctx
    isplitl [Ha] <;> iassumption
  iintro ⟨Hrp, Hri, How⟩
  simp only [Prog.lift, Prog.bind_op, Prog.bind_ret]
  iapply (load_SB c b (par 7) hs (.inl rfl) (.inl rfl) v v') $$ Hs
  iintro %a %ha Hs
  iapply (load_RB ιwm c b (par 6) hs hR _) $$ [Hrp HR]
  · isplitr
    · iapply (ctx_wm V K J ιwm) $$ Hctx
    isplitl [Hrp] <;> iassumption
  iintro %a' %ha' ⟨Hrp, HR⟩
  unfold reluTile
  rw [ha.1, ha']
  iapply (wp_load 𝒱₀ (c : Thread nD τ) none Set.univ (m := OS) (r := (tileR slot).toLoadRect) (OTtile_sub' slot)) $$ Ho
  iintro Ho
  iapply (wp_store 𝒱₀ (c : Thread nD τ) none Set.univ (m := OS) (r := tileR slot) (Mk := Finset.univ)
    ((View.setOn_subset_set _ _).trans (OTtile_sub slot))) $$ Ho
  iintro Ho
  iapply (Transfers.wp_dmaLocal EC 𝒱₀ (c : Thread nD τ) none (src := OT slot) (via := .same) (dst := OC b sub) (sm := .dma (outS slot)) 0
    (OC b sub).view.dmaCredit rfl (View.dmaCredit_pos _ (by decide)) subset_rfl) $$ [Ho Hd Hv]
  · isplitl [Ho]; · iexact Ho
    isplitl [Hd] <;> iassumption
  iintro Hfl
  iapply wpc_ret
  iapply Hk
  isplitl [Hri Hrp]
  · isplitl [Hri]; · iexact Hri
    iexists _; iexact Hrp
  isplitl [Hs]; · iexact Hs
  isplitl [HR]; · iexact HR
  isplitl [Hfl]
  · iexists _, _
    isplitr
    · ipureintro
      exact OT_read_store slot f (relu2 v (V b 6 sub (upD b c)))
    · iexact Hfl
  · iexact How

theorem run_waitOut (c : Dev nD) (b sub slot : Fin 2) (v : Vec F S1024x1024 .f32) (l : List Pay) (hl : Above 0 l) :
    Runs c iprop(ctx V K J ιwm ∗ leaving c b sub slot v ∗ Owing c l) (waitOut b sub slot)
      iprop(ocAt c b sub v ∗ stage c slot ∗ Owing c l) := by
  intro Q
  unfold waitOut leaving stage Owing ocAt
  simp only [Prog.lift]
  iintro ⟨#Hctx, ⟨%fs, %fd, %hv, Hfl⟩, ⟨%w, How⟩, Htk⟩ Hk
  iapply (Transfers.wp_waitLocalO EC 𝒱₀ (c : Thread nD τ) none 0 (N := (OC b sub).view.dmaCredit) rfl) $$ [Hfl How]
  · isplitl [Hfl]; · iexact Hfl
    isplitl [How]; · iexact How
    ihave Hlev := (ctx_lev V K J ιwm) $$ Hctx
    iapply (mayWait c (.dma (outS slot)) 0 l (by decide) fun p hp => ⟨by rw [lev_out c slot]; exact (hl p hp).1, (hl p hp).2⟩) $$ Hlev
  iintro ⟨⟨Hd, Hs⟩, Hv, How⟩
  iapply wpc_ret
  iapply Hk
  isplitl [Hd]
  · iapply (pointsTo_rep_of_read (c : Thread nD τ) (OC b sub) _ fullShare _
      ((View.read_write_univ (v := (OC b sub).view) (Val := Elt F) _ _).trans hv)) $$ Hd
  isplitl [Hs Hv]
  · isplitl [Hs]
    · iexists _; iexact Hs
    · iexact Hv
  isplitl [How]
  · iexists _; iexact How
  · iexact Htk

/-- The strip of the result, of the values that arrive. -/
def resV (c : Dev nD) (b sub : Fin 2) : FVec F S1024x1024 .f32 := relu2 (cols sub (own A B c b 7)) (V b 6 sub (upD b c))

/-- A piece at the end: both of its send pieces and both of its receive pieces free, and their cells past every round. -/
def PcEnd (c : Dev nD) (b sub : Fin 2) : sProp 𝕄 :=
  iprop(((∃ v, sp c b (par 7) sub fullShare v) ∗ Idle c b 7 sub) ∗ ((∃ v, sp c b (par 6) sub fullShare v) ∗ Idle c b 8 sub)
    ∗ (RIdle c b 7 sub ∗ ∃ v, rp c b (par 7) sub v) ∗ (RIdle c b 8 sub ∗ ∃ v, rp c b (par 6) sub v))
/-- A direction at the end. -/
def DirEnd (c : Dev nD) (b : Fin 2) : sProp 𝕄 :=
  iprop((∃ x, xtAt c b x) ∗ (wbAt B c b 0 ∗ wbAt B c b 1) ∗ CAt c b 10 ∗ PcEnd c b 0 ∗ PcEnd c b 1
    ∗ ocAt c b 0 (resV A B V c b 0) ∗ ocAt c b 1 (resV A B V c b 1))

theorem reads_done (c : Dev nD) (b sub : Fin 2) (u : ℕ) : Reads ιwm c b (par 6) sub iprop(RIdle c b u sub ∗ ∃ w : Vec F S1024x1024 .bf16, rp c b (par 6) sub w) := by
  unfold Reads
  iintro ⟨Hi, HR, ⟨%v, H⟩⟩
  have h := reads_rp ιwm c b (par 6) sub v
  unfold Reads at h
  icombine Hi H as H
  imod h $$ H with ⟨%cur, Hp, Hcl⟩
  imodintro
  iexists cur
  isplitl [Hp]; · iexact Hp
  iintro Hp
  imod Hcl $$ Hp with H
  imodintro
  isplitl [HR]; · iexact HR
  iexists _; iexact H

theorem run_epilogue (c : Dev nD) :
    Runs c iprop(ctx V K J ιwm ∗ fetches A B c ∗ (stage c 0 ∗ stage c 1) ∗ (ocAny c 0 0 ∗ ocAny c 0 1) ∗ (ocAny c 1 0 ∗ ocAny c 1 1)
        ∗ Dir B V c 0 6 ∗ Dir B V c 1 6 ∗ Owing c []) (epilogue c)
      iprop(fetches A B c ∗ (stage c 0 ∗ stage c 1) ∗ DirEnd A B V c 0 ∗ DirEnd A B V c 1 ∗ Owing c []) := by
  have hnil : ∀ n, Above n [] := fun n p hp => absurd hp List.not_mem_nil
  have hnxt : ∀ b sub, (Nxt V c b 6 sub : sProp 𝕄) = iprop(RIdle c b 7 sub ∗ ∃ v, rp c b (par 7) sub v) := fun b sub => if_neg (by decide)
  have hc : camt 6 0 = 10 := rfl
  intro Q
  unfold epilogue Dir Pc
  rw [hnxt, hnxt, hnxt, hnxt, hc]
  iintro ⟨#Hctx, Hf, ⟨Hst0, Hst1⟩, ⟨Ho0, Ho1⟩, ⟨Ho0', Ho1'⟩, ⟨Hx, HW, -, Hc, ⟨Hp0, Hl0, Ha0, Hn0, -⟩, ⟨Hp1, Hl1, Ha1, Hn1, -⟩⟩,
    ⟨Hx', HW', -, Hc', ⟨Hp0', Hl0', Ha0', Hn0', -⟩, ⟨Hp1', Hl1', Ha1', Hn1', -⟩⟩, How⟩ Hk
  iapply ((run_stepDot A B V K J ιwm c 0 7 6 le_rfl rfl _ (hnil 0)).run) $$ [Hf Hx HW Hp0 Hp1 How]
  · isplitr; · iexact Hctx
    isplitl [Hf]; · iexact Hf
    isplitl [Hx]; · iexact Hx
    isplitl [HW]; · iexact HW
    isplitl [Hp0]; · iexact Hp0
    isplitl [Hp1] <;> iassumption
  iintro ⟨Hf, Hx, HW, ⟨Hs0, Hi0⟩, ⟨Hs1, Hi1⟩, How⟩
  iapply ((run_stepDot A B V K J ιwm c 1 7 6 le_rfl rfl _ (hnil 0)).run) $$ [Hf Hx' HW' Hp0' Hp1' How]
  · isplitr; · iexact Hctx
    isplitl [Hf]; · iexact Hf
    isplitl [Hx']; · iexact Hx'
    isplitl [HW']; · iexact HW'
    isplitl [Hp0']; · iexact Hp0'
    isplitl [Hp1'] <;> iassumption
  iintro ⟨Hf, Hx', HW', ⟨Hs0', Hi0'⟩, ⟨Hs1', Hi1'⟩, How⟩
  iapply ((run_finish V K J ιwm c 0 (sub := 0) (sub' := 1) (by decide) 0 _ _ (reads_await V ιwm c 0 1 6) _ (hnil 14)).run) $$ [Ha0 Hs0 Hs1 Ha1 Hst0 Ho0 How]
  · isplitr; · iexact Hctx
    isplitl [Ha0]; · iexact Ha0
    isplitl [Hs0 Hs1]
    · isplitl [Hs0] <;> iassumption
    isplitl [Ha1]; · iexact Ha1
    isplitl [Hst0]; · iexact Hst0
    isplitl [Ho0] <;> iassumption
  iintro ⟨Hr0, ⟨Hs0, Hs1⟩, Ha1, Hv0, How⟩
  iapply ((run_finish V K J ιwm c 1 (sub := 0) (sub' := 1) (by decide) 1 _ _ (reads_await V ιwm c 1 1 6) _ (hnil 14)).run) $$ [Ha0' Hs0' Hs1' Ha1' Hst1 Ho0' How]
  · isplitr; · iexact Hctx
    isplitl [Ha0']; · iexact Ha0'
    isplitl [Hs0' Hs1']
    · isplitl [Hs0'] <;> iassumption
    isplitl [Ha1']; · iexact Ha1'
    isplitl [Hst1]; · iexact Hst1
    isplitl [Ho0'] <;> iassumption
  iintro ⟨Hr0', ⟨Hs0', Hs1'⟩, Ha1', Hv0', How⟩
  iapply ((run_waitOut V K J ιwm c 0 0 0 _ _ (hnil 0)).run) $$ [Hv0 How]
  · isplitr; · iexact Hctx
    isplitl [Hv0] <;> iassumption
  iintro ⟨Ho0, Hst0, How⟩
  iapply ((run_finish V K J ιwm c 0 (sub := 1) (sub' := 0) (by decide) 0 _ _ (reads_done ιwm c 0 0 8) _ (hnil 14)).run) $$ [Ha1 Hs0 Hs1 Hr0 Hst0 Ho1 How]
  · isplitr; · iexact Hctx
    isplitl [Ha1]; · iexact Ha1
    isplitl [Hs0 Hs1]
    · isplitl [Hs1] <;> iassumption
    isplitl [Hr0]; · iexact Hr0
    isplitl [Hst0]; · iexact Hst0
    isplitl [Ho1] <;> iassumption
  iintro ⟨Hr1, ⟨Hs1, Hs0⟩, Hr0, Hv1, How⟩
  iapply ((run_waitOut V K J ιwm c 1 0 1 _ _ (hnil 0)).run) $$ [Hv0' How]
  · isplitr; · iexact Hctx
    isplitl [Hv0'] <;> iassumption
  iintro ⟨Ho0', Hst1, How⟩
  iapply ((run_finish V K J ιwm c 1 (sub := 1) (sub' := 0) (by decide) 1 _ _ (reads_done ιwm c 1 0 8) _ (hnil 14)).run) $$ [Ha1' Hs0' Hs1' Hr0' Hst1 Ho1' How]
  · isplitr; · iexact Hctx
    isplitl [Ha1']; · iexact Ha1'
    isplitl [Hs0' Hs1']
    · isplitl [Hs1'] <;> iassumption
    isplitl [Hr0']; · iexact Hr0'
    isplitl [Hst1]; · iexact Hst1
    isplitl [Ho1'] <;> iassumption
  iintro ⟨Hr1', ⟨Hs1', Hs0'⟩, Hr0', Hv1', How⟩
  iapply ((run_waitOut V K J ιwm c 0 1 0 _ _ (hnil 0)).run) $$ [Hv1 How]
  · isplitr; · iexact Hctx
    isplitl [Hv1] <;> iassumption
  iintro ⟨Ho1, Hst0, How⟩
  iapply ((run_waitOut V K J ιwm c 1 1 1 _ _ (hnil 0)).run) $$ [Hv1' How]
  · isplitr; · iexact Hctx
    isplitl [Hv1'] <;> iassumption
  iintro ⟨Ho1', Hst1, How⟩
  iapply ((wait_send V K J ιwm c 0 (u := 6) (by omega) 0 _ (hnil 0)).run) $$ [Hl0 How]
  · isplitr; · iexact Hctx
    isplitl [Hl0] <;> iassumption
  iintro ⟨Ht0, Hj0, How⟩
  iapply ((wait_send V K J ιwm c 0 (u := 6) (by omega) 1 _ (hnil 0)).run) $$ [Hl1 How]
  · isplitr; · iexact Hctx
    isplitl [Hl1] <;> iassumption
  iintro ⟨Ht1, Hj1, How⟩
  iapply ((wait_send V K J ιwm c 1 (u := 6) (by omega) 0 _ (hnil 0)).run) $$ [Hl0' How]
  · isplitr; · iexact Hctx
    isplitl [Hl0'] <;> iassumption
  iintro ⟨Ht0', Hj0', How⟩
  iapply (wait_send V K J ιwm c 1 (u := 6) (by omega) 1 _ (hnil 0) Q) $$ [Hl1' How]
  · isplitr; · iexact Hctx
    isplitl [Hl1'] <;> iassumption
  iintro ⟨Ht1', Hj1', How⟩
  iapply Hk
  unfold DirEnd PcEnd
  isplitl [Hf]; · iexact Hf
  isplitl [Hst0 Hst1]
  · isplitl [Hst0] <;> iassumption
  isplitl [Hx HW Hc Hs0 Hi0 Ht0 Hj0 Hn0 Hr0 Hs1 Hi1 Ht1 Hj1 Hn1 Hr1 Ho0 Ho1]
  · isplitl [Hx]; · iexact Hx
    isplitl [HW]; · iexact HW
    isplitl [Hc]; · iexact Hc
    isplitl [Hs0 Hi0 Ht0 Hj0 Hn0 Hr0]
    · isplitl [Hs0 Hi0]
      · isplitl [Hs0]
        · iexists _; iexact Hs0
        · iexact Hi0
      isplitl [Ht0 Hj0]
      · isplitl [Ht0]
        · iexists _; iexact Ht0
        · iexact Hj0
      isplitl [Hn0] <;> iassumption
    isplitl [Hs1 Hi1 Ht1 Hj1 Hn1 Hr1]
    · isplitl [Hs1 Hi1]
      · isplitl [Hs1]
        · iexists _; iexact Hs1
        · iexact Hi1
      isplitl [Ht1 Hj1]
      · isplitl [Ht1]
        · iexists _; iexact Ht1
        · iexact Hj1
      isplitl [Hn1] <;> iassumption
    isplitl [Ho0]; · iexact Ho0
    iexact Ho1
  isplitl [Hx' HW' Hc' Hs0' Hi0' Ht0' Hj0' Hn0' Hr0' Hs1' Hi1' Ht1' Hj1' Hn1' Hr1' Ho0' Ho1']
  · isplitl [Hx']; · iexact Hx'
    isplitl [HW']; · iexact HW'
    isplitl [Hc']; · iexact Hc'
    isplitl [Hs0' Hi0' Ht0' Hj0' Hn0' Hr0']
    · isplitl [Hs0' Hi0']
      · isplitl [Hs0']
        · iexists _; iexact Hs0'
        · iexact Hi0'
      isplitl [Ht0' Hj0']
      · isplitl [Ht0']
        · iexists _; iexact Ht0'
        · iexact Hj0'
      isplitl [Hn0'] <;> iassumption
    isplitl [Hs1' Hi1' Ht1' Hj1' Hn1' Hr1']
    · isplitl [Hs1' Hi1']
      · isplitl [Hs1']
        · iexists _; iexact Hs1'
        · iexact Hi1'
      isplitl [Ht1' Hj1']
      · isplitl [Ht1']
        · iexists _; iexact Ht1'
        · iexact Hj1'
      isplitl [Hn1'] <;> iassumption
    isplitl [Ho0']; · iexact Ho0'
    iexact Ho1'
  iexact How

/-! ## The body -/

theorem above_steps : ∀ r ∈ Finset.range 6, Above (2 * r + 2) (stepP (r + 1) ++ restP (r + 2)) := by unfold Above; decide

theorem run_body (hB : Begins A B V) (hV : Sums A B V) (c : Dev nD) :
    Runs c iprop(ctx V K J ιwm ∗ fetches A B c ∗ (barPay V c 0 ∗ barPay V c 1 ∗ atPos ER (cell c .bar) 0 ∅ 0
        ∗ cred (tallyAt (cell c .bar) 0 2)) ∗ ((stage c 0 ∗ stage c 1) ∗ (ocAny c 0 0 ∗ ocAny c 0 1) ∗ (ocAny c 1 0 ∗ ocAny c 1 1))
        ∗ Dir' V c 0 ∗ Dir' V c 1 ∗ Owing c allP)
      (body (F := F))
      iprop(fetches A B c ∗ atPos ER (cell c .bar) 1 ∅ 0 ∗ (stage c 0 ∗ stage c 1) ∗ DirEnd A B V c 0 ∗ DirEnd A B V c 1 ∗ Owing c []) := by
  have hs : ∀ r, r ≤ 5 → ∀ s : Fin 8, s.val = r + 1 → Runs c iprop(ctx V K J ιwm ∗ fetches A B c ∗ Dir B V c 0 r ∗ Dir B V c 1 r
      ∗ Owing c (restP (r + 1))) (step c s) iprop(fetches A B c ∗ Dir B V c 0 (r + 1) ∗ Dir B V c 1 (r + 1) ∗ Owing c (restP (r + 2))) := by
    intro r hr s h
    have e : restP (r + 1) = stepP (r + 1) ++ restP (r + 2) := by
      have key : ∀ r ∈ Finset.range 6, restP (r + 1) = stepP (r + 1) ++ restP (r + 2) := by decide
      exact key r (Finset.mem_range.mpr (by omega))
    rw [e]
    exact run_step A B V K J ιwm hV c s r hr h _ (above_steps r (Finset.mem_range.mpr (by omega)))
  intro Q
  have hdev : ∀ k : Dev nD → P (F := F) PUnit, wpc c (.op .deviceId k) Q = wpc c (k c) Q := fun k => wp_deviceId 𝒱₀ (c : Thread nD τ) none Set.univ
  unfold body
  simp only [Prog.lift, Prog.bind_op, Prog.bind_ret]
  iintro ⟨#Hctx, Hf, Hb, ⟨Hst, Ho, Ho'⟩, Hd, Hd', How⟩ Hk
  iapply (Entails.of_eq (hdev _).symm)
  iapply ((run_prologue A B V K J ιwm hB c).run) $$ [Hf Hb Hd Hd' How]
  · isplitr; · iexact Hctx
    isplitl [Hf]; · iexact Hf
    isplitl [Hb]; · iexact Hb
    isplitl [Hd]; · iexact Hd
    isplitl [Hd'] <;> iassumption
  iintro ⟨Hf, Hb, Hd, Hd', How⟩
  iapply ((hs 0 (by decide) 1 rfl).run) $$ [Hf Hd Hd' How]
  · isplitr; · iexact Hctx
    isplitl [Hf]; · iexact Hf
    isplitl [Hd]; · iexact Hd
    isplitl [Hd'] <;> iassumption
  iintro ⟨Hf, Hd, Hd', How⟩
  iapply ((hs 1 (by decide) 2 rfl).run) $$ [Hf Hd Hd' How]
  · isplitr; · iexact Hctx
    isplitl [Hf]; · iexact Hf
    isplitl [Hd]; · iexact Hd
    isplitl [Hd'] <;> iassumption
  iintro ⟨Hf, Hd, Hd', How⟩
  iapply ((hs 2 (by decide) 3 rfl).run) $$ [Hf Hd Hd' How]
  · isplitr; · iexact Hctx
    isplitl [Hf]; · iexact Hf
    isplitl [Hd]; · iexact Hd
    isplitl [Hd'] <;> iassumption
  iintro ⟨Hf, Hd, Hd', How⟩
  iapply ((hs 3 (by decide) 4 rfl).run) $$ [Hf Hd Hd' How]
  · isplitr; · iexact Hctx
    isplitl [Hf]; · iexact Hf
    isplitl [Hd]; · iexact Hd
    isplitl [Hd'] <;> iassumption
  iintro ⟨Hf, Hd, Hd', How⟩
  iapply ((hs 4 (by decide) 5 rfl).run) $$ [Hf Hd Hd' How]
  · isplitr; · iexact Hctx
    isplitl [Hf]; · iexact Hf
    isplitl [Hd]; · iexact Hd
    isplitl [Hd'] <;> iassumption
  iintro ⟨Hf, Hd, Hd', How⟩
  iapply ((hs 5 (by decide) 6 rfl).run) $$ [Hf Hd Hd' How]
  · isplitr; · iexact Hctx
    isplitl [Hf]; · iexact Hf
    isplitl [Hd]; · iexact Hd
    isplitl [Hd'] <;> iassumption
  iintro ⟨Hf, Hd, Hd', How⟩
  iapply (run_epilogue A B V K J ιwm c Q) $$ [Hf Hst Ho Ho' Hd Hd' How]
  · isplitr; · iexact Hctx
    isplitl [Hf]; · iexact Hf
    isplitl [Hst]; · iexact Hst
    isplitl [Ho]; · iexact Ho
    isplitl [Ho']; · iexact Ho'
    isplitl [Hd]; · iexact Hd
    isplitl [Hd']; · iexact Hd'
    iexact How
  iintro ⟨Hf, Hst, Hd, Hd', How⟩
  iapply Hk
  isplitl [Hf]; · iexact Hf
  isplitl [Hb]; · iexact Hb
  isplitl [Hst]; · iexact Hst
  isplitl [Hd]; · iexact Hd
  isplitl [Hd'] <;> iassumption

end Cert.KernelIdeal.Ring

end
-- ==== Proof.KernelIdealDeal.lean ====
/-
  What the launch deals: the tokens of all payments, the rounds of all cells, the credits of all payments, and
  the put-back pieces, sorted by the device that uses them.
-/
module

public import proofs.«01_k».proof.Proof.KernelIdealEnds

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

/-- Resources over pairs, one component after the other. -/
theorem over_pairs {α β : Type} [DecidableEq α] [DecidableEq β] (s : Finset α) (t : Finset β) (Φ : α × β → sProp 𝕄) :
    bigSep (s ×ˢ t) Φ = bigSep s fun a => bigSep t fun b => Φ (a, b) := by
  rw [Finset.product_eq_biUnion, bigSep_biUnion_eq _ _ _ fun a _ a' _ hne => Finset.disjoint_left.mpr fun x hx hx' => by
    obtain ⟨b, -, rfl⟩ := Finset.mem_image.mp hx
    obtain ⟨b', -, e⟩ := Finset.mem_image.mp hx'
    exact hne (congrArg Prod.fst e).symm]
  exact bigSep_congr fun a _ => bigSep_image_of_injOn (fun _ _ _ _ e => congrArg Prod.snd e) Φ

/-! ## Tokens -/

/-- The tokens device `c` makes a payment with: the payee's, and of a transfer the sender's own too. -/
def payTok (cp : Dev nD × Pay) : Finset (GSem nD τ sig × ℕ × ℕ) :=
  match cp.2 with
  | .bar b => {(cell (upD b cp.1) .bar, 0, b.val)}
  | .send b u sub => {(cell (dstD b cp.1) (.recv b (par u) sub), u / 2, 0), (cell cp.1 (.send b (par u) sub), u / 2, 0)}
  | .cred b n => {(cell (upD b cp.1) (.cred b), 0, n)}

theorem cell_eq {c c' : Dev nD} {x x' : Cell} (h : cell c x = cell c' x') : c = c' ∧ x = x' :=
  Prod.ext_iff.mp (cell_injective (a₁ := (c, x)) (a₂ := (c', x')) h)

theorem up_inj (b : Fin 2) {c c' : Dev nD} (h : upD b c = upD b c') : c = c' := by
  rw [← dst_up b c, h, dst_up]
theorem dst_inj (b : Fin 2) {c c' : Dev nD} (h : dstD b c = dstD b c') : c = c' := by
  rw [← up_dst b c, h, up_dst]
theorem use_inj {u u' : ℕ} (h : par u = par u') (h' : u / 2 = u' / 2) : u = u' := by
  rw [← use_eq u, ← use_eq u', h, h']

theorem token_cells {c c' : Dev nD} {x x' : Cell} {r r' d d' : ℕ} {y : GSem nD τ sig × ℕ × ℕ} (h : y = (cell c x, r, d))
    (h' : y = (cell c' x', r', d')) : c = c' ∧ x = x' ∧ r = r' ∧ d = d' := by
  have e := h.symm.trans h'
  have e1 := cell_eq (congrArg (fun z => z.1) e)
  exact ⟨e1.1, e1.2, congrArg (fun z => z.2.1) e, congrArg (fun z => z.2.2) e⟩

theorem mem_payTok_bar {c : Dev nD} {b : Fin 2} {x : GSem nD τ sig × ℕ × ℕ} :
    x ∈ payTok (c, .bar b) ↔ x = (cell (upD b c) .bar, 0, b.val) := Finset.mem_singleton
theorem mem_payTok_cred {c : Dev nD} {b : Fin 2} {n : ℕ} {x : GSem nD τ sig × ℕ × ℕ} :
    x ∈ payTok (c, .cred b n) ↔ x = (cell (upD b c) (.cred b), 0, n) := Finset.mem_singleton
theorem mem_payTok_send {c : Dev nD} {b : Fin 2} {u : ℕ} {sub : Fin 2} {x : GSem nD τ sig × ℕ × ℕ} :
    x ∈ payTok (c, .send b u sub) ↔ x = (cell (dstD b c) (.recv b (par u) sub), u / 2, 0) ∨ x = (cell c (.send b (par u) sub), u / 2, 0) :=
  Finset.mem_insert.trans (or_congr Iff.rfl Finset.mem_singleton)

/-- A token makes one device's one payment. -/
theorem payTok_once {cp cp' : Dev nD × Pay} {x : GSem nD τ sig × ℕ × ℕ} (h : x ∈ payTok cp) (h' : x ∈ payTok cp') : cp = cp' := by
  obtain ⟨c, p⟩ := cp
  obtain ⟨c', p'⟩ := cp'
  cases p with
  | bar b =>
    have h := mem_payTok_bar.mp h
    cases p' with
    | bar b' =>
      obtain ⟨e, -, -, ed⟩ := token_cells h (mem_payTok_bar.mp h')
      obtain rfl : b = b' := Fin.ext ed
      rw [up_inj b e]
    | send b' u' sub' => rcases mem_payTok_send.mp h' with h' | h' <;> exact absurd (token_cells h h').2.1 Cell.noConfusion
    | cred b' n' => exact absurd (token_cells h (mem_payTok_cred.mp h')).2.1 Cell.noConfusion
  | cred b n =>
    have h := mem_payTok_cred.mp h
    cases p' with
    | bar b' => exact absurd (token_cells h (mem_payTok_bar.mp h')).2.1 Cell.noConfusion
    | send b' u' sub' => rcases mem_payTok_send.mp h' with h' | h' <;> exact absurd (token_cells h h').2.1 Cell.noConfusion
    | cred b' n' =>
      obtain ⟨e, ec, -, rfl⟩ := token_cells h (mem_payTok_cred.mp h')
      obtain rfl := Cell.cred.inj ec
      rw [up_inj b e]
  | send b u sub =>
    have h := mem_payTok_send.mp h
    cases p' with
    | bar b' => rcases h with h | h <;> exact absurd (token_cells h (mem_payTok_bar.mp h')).2.1 Cell.noConfusion
    | cred b' n' => rcases h with h | h <;> exact absurd (token_cells h (mem_payTok_cred.mp h')).2.1 Cell.noConfusion
    | send b' u' sub' =>
      rcases h with h | h <;> rcases mem_payTok_send.mp h' with h' | h'
      · obtain ⟨e, ec, er, -⟩ := token_cells h h'
        obtain ⟨rfl, ep, rfl⟩ := Cell.recv.inj ec
        rw [use_inj ep er, dst_inj b e]
      · exact absurd (token_cells h h').2.1 Cell.noConfusion
      · exact absurd (token_cells h h').2.1 Cell.noConfusion
      · obtain ⟨e, ec, er, -⟩ := token_cells h h'
        obtain ⟨rfl, ep, rfl⟩ := Cell.send.inj ec
        rw [use_inj ep er, e]

/-- The payments of all devices. -/
def payers : Finset (Dev nD × Pay) := Finset.univ ×ˢ allP.toFinset
/-- The tokens of all payments. -/
def allToks : Finset (GSem nD τ sig × ℕ × ℕ) := payers.biUnion payTok

theorem allP_nodup : allP.Nodup := by decide

theorem tok_eq (c : Dev nD) (p : Pay) :
    bigSep (payTok (c, p)) (fun x => (dutyTok ER x.1 x.2.1 x.2.2 : sProp 𝕄)) = tok c p := by
  cases p with
  | bar b => exact bigSep_singleton
  | cred b n => exact bigSep_singleton
  | send b u sub =>
    unfold payTok
    rw [bigSep_insert (by
      intro h
      have := Finset.mem_singleton.mp h
      exact absurd (cell_eq (congrArg (fun y => y.1) this)).2 (by simp)), bigSep_singleton]
    rfl

/-- A list's resources, one for each member. -/
theorem list_deal (Φ : Pay → sProp 𝕄) (Ψ : List Pay → sProp 𝕄) (h0 : Ψ [] = iprop(emp)) (h1 : ∀ p l, Ψ (p :: l) = iprop(Φ p ∗ Ψ l))
    {l : List Pay} (hl : l.Nodup) : bigSep l.toFinset Φ = Ψ l := by
  induction l with
  | nil => rw [h0, List.toFinset_nil, bigSep_empty]; rfl
  | cons p l ih =>
    rw [List.toFinset_cons, bigSep_insert (by rw [List.mem_toFinset]; exact (List.nodup_cons.mp hl).1), ih (List.nodup_cons.mp hl).2, h1]
    rfl

theorem deal_toks : bigSep allToks (fun x => (dutyTok ER x.1 x.2.1 x.2.2 : sProp 𝕄)) = bigSep Finset.univ fun c : Dev nD => toks c allP := by
  unfold allToks
  rw [bigSep_biUnion_eq payers payTok _ (fun cp _ cp' _ hne => Finset.disjoint_left.mpr fun x h h' => hne (payTok_once h h'))]
  unfold payers
  rw [over_pairs]
  refine bigSep_congr fun c _ => ?_
  rw [bigSep_congr (fun p _ => tok_eq c p)]
  exact list_deal (tok c) (toks c) rfl (fun _ _ => rfl) allP_nodup

/-! ## Cells -/

/-- All devices' cells. -/
def cells : Finset (GSem nD τ sig) := (Finset.univ ×ˢ allCells).image fun cx : Dev nD × Cell => cell cx.1 cx.2

theorem deal_cells (Φ : GSem nD τ sig → sProp 𝕄) : bigSep cells Φ = bigSep (Finset.univ ×ˢ allCells) fun cx : Dev nD × Cell => Φ (cell cx.1 cx.2) := by
  unfold cells
  exact bigSep_image_of_injOn cell_injective.injOn Φ

/-- A device's cells by kind. -/
theorem cells_kinds (Φ : Cell → sProp 𝕄) : bigSep allCells Φ = iprop(((Φ .bar
    ∗ bigSep Finset.univ fun t : Fin 2 × Fin 2 × Fin 2 => Φ (.send t.1 t.2.1 t.2.2))
    ∗ bigSep Finset.univ fun t : Fin 2 × Fin 2 × Fin 2 => Φ (.recv t.1 t.2.1 t.2.2))
    ∗ bigSep Finset.univ fun b : Fin 2 => Φ (.cred b)) := by
  unfold allCells
  rw [bigSep_union (by decide), bigSep_union (by decide), bigSep_union (by decide), bigSep_singleton,
    bigSep_image_of_injOn (by intro x _ y _ h; obtain ⟨h1, h2, h3⟩ := Cell.send.inj h; exact Prod.ext h1 (Prod.ext h2 h3)),
    bigSep_image_of_injOn (by intro x _ y _ h; obtain ⟨h1, h2, h3⟩ := Cell.recv.inj h; exact Prod.ext h1 (Prod.ext h2 h3)),
    bigSep_image_of_injOn (by intro x _ y _ h; exact Cell.cred.inj h)]
  rfl

/-! ## Credits -/

/-- What device `c` is paid, by kind of payment. -/
def due (c : Dev nD) (p : Pay) : CellTallies nD τ sig ℕ := tallyAt (cell c p.at_) p.ix p.amt

/-- The ring, one step in direction `b`. -/
def ringE (b : Fin 2) : Dev nD ≃ Dev nD := ⟨dstD b, upD b, up_dst b, dst_up b⟩

theorem tally_around (p : Pay) : (∑ d : Dev nD, tally d p) = ∑ d : Dev nD, due d p := by
  cases p with
  | bar b => exact (ringE b).symm.sum_comp fun d => due d (.bar b)
  | send b u sub => exact (ringE b).sum_comp fun d => due d (.send b u sub)
  | cred b n => exact (ringE b).symm.sum_comp fun d => due d (.cred b n)

theorem owed_sum (d : Dev nD) : owedOf d allP = ∑ p ∈ allP.toFinset, tally d p := by
  unfold owedOf
  exact (List.sum_toFinset (tally d) allP_nodup).symm

theorem owed_around : (∑ d : Dev nD, owedOf d allP) = ∑ d : Dev nD, ∑ p ∈ allP.toFinset, due d p := by
  rw [Finset.sum_congr rfl fun d _ => owed_sum d, Finset.sum_comm, Finset.sum_congr rfl fun p _ => tally_around p, Finset.sum_comm]

theorem due_own (d : Dev nD) (g : GSem nD τ sig) (h : (∑ p ∈ allP.toFinset, due d p) g ≠ 0) : g.1 = (d.tc : Thread nD τ) := by
  by_contra hne
  apply h
  rw [Finset.sum_apply]
  refine Finset.sum_eq_zero fun p _ => ?_
  unfold due
  exact tallyAt_ne_cell (fun e => hne (congrArg Prod.fst e)) _ _

theorem deal_creds (c : Dev nD) :
    (Pipeline.launchCred (fun d => owedOf d allP) c : sProp 𝕄) = bigSep allP.toFinset fun p => cred (due c p) := by
  rw [Pipeline.launchCred_of_sum _ (fun d => ∑ p ∈ allP.toFinset, due d p) owed_around due_own]
  induction allP.toFinset using Finset.induction_on with
  | empty => rw [Finset.sum_empty, cred_zero, bigSep_empty]; rfl
  | insert p s hp ih =>
    rw [Finset.sum_insert hp, bigSep_insert hp, ← ih]
    exact Entails.antisymm (cred_add _ _).1 (cred_add _ _).2

/-- The payments by kind. -/
theorem allP_kinds : allP.toFinset = ((Finset.univ.image fun b : Fin 2 => Pay.bar b)
    ∪ ((Finset.univ : Finset (Fin 2 × Fin 2)) ×ˢ Finset.range 7).image fun t => Pay.send t.1.1 t.2 t.1.2)
    ∪ ((Finset.univ : Finset (Fin 2)) ×ˢ Finset.range 10).image fun t => Pay.cred t.1 t.2 := by decide

theorem pays_kinds (Φ : Pay → sProp 𝕄) : bigSep allP.toFinset Φ = iprop(((bigSep Finset.univ fun b : Fin 2 => Φ (.bar b))
    ∗ bigSep Finset.univ fun t : Fin 2 × Fin 2 => bigSep (Finset.range 7) fun u => Φ (.send t.1 u t.2))
    ∗ bigSep Finset.univ fun b : Fin 2 => bigSep (Finset.range 10) fun n => Φ (.cred b n)) := by
  rw [allP_kinds, bigSep_union (by decide), bigSep_union (by decide),
    bigSep_image_of_injOn (by intro x _ y _ h; exact Pay.bar.inj h),
    bigSep_image_of_injOn (by intro x _ y _ h; obtain ⟨h1, h2, h3⟩ := Pay.send.inj h; exact Prod.ext (Prod.ext h1 h3) h2),
    bigSep_image_of_injOn (by intro x _ y _ h; obtain ⟨h1, h2⟩ := Pay.cred.inj h; exact Prod.ext h1 h2),
    over_pairs, over_pairs]
  rfl

/-! ## Put-back pieces -/

theorem keys_deal (Φ : Key → sProp 𝕄) : bigSep keys Φ
    = bigSep Finset.univ fun c : Dev nD => bigSep Finset.univ fun b : Fin 2 => bigSep (Finset.range 10) fun m => Φ (key c b m) := by
  unfold keys
  rw [over_pairs]
  refine bigSep_congr fun c _ => ?_
  rw [over_pairs]

/-- The same, each device holding the next device's. -/
theorem keys_around (Φ : Key → sProp 𝕄) : bigSep keys Φ
    = bigSep Finset.univ fun c : Dev nD => bigSep Finset.univ fun b : Fin 2 => bigSep (Finset.range 10) fun m => Φ (key (dstD b c) b m) := by
  rw [keys_deal, bigSep_univ_comm, bigSep_univ_comm (fun (c : Dev nD) (b : Fin 2) => bigSep (Finset.range 10) fun m => Φ (key (dstD b c) b m))]
  refine bigSep_congr fun b _ => ?_
  exact bigSep_univ_equiv (ringE b) fun c : Dev nD => bigSep (Finset.range 10) fun m => Φ (key c b m)

end Cert.KernelIdeal.Ring

end
-- ==== Proof.KernelIdealOpen.lean ====
/-
  The ghost state at the launch: from one element to every device's share of it, and, with the semaphores at
  zero, to the invariants all devices work under.
-/
module

public import proofs.«01_k».proof.Proof.KernelIdealDeal

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

variable (V : Fin 2 → ℕ → Fin 2 → Dev nD → Vec F S1024x1024 .bf16)

/-! ## The semaphores -/

/-- The kernel's own semaphores, by kind. -/
abbrev Own : Type := ((Fin 2 × Fin 2 × Fin 2) ⊕ (Fin 2 × Fin 2 × Fin 2) ⊕ Fin 2) ⊕ (Unit ⊕ Fin 2)
abbrev osem : Own → SemLoc sig
  | .inl (.inl t) => .dma (sendS t.1 t.2.1 t.2.2)
  | .inl (.inr (.inl t)) => .dma (recvS t.1 t.2.1 t.2.2)
  | .inl (.inr (.inr b)) => .reg (credS b)
  | .inr (.inl ()) => .dma xfS
  | .inr (.inr p) => .dma (outS p)

theorem ownSemFacts : Pipeline.OwnSemFacts cfg0.spec osem := by decide

/-- The semaphores no other device reaches, at zero. -/
def locals (c : Dev nD) : sProp 𝕄 :=
  iprop(semVal ((c : Thread nD τ), SemLoc.dma xfS) 0 ∗ bigSep Finset.univ fun p : Fin 2 => semVal ((c : Thread nD τ), SemLoc.dma (outS p)) 0)
/-- The cells, at zero. -/
def zeros (c : Dev nD) : sProp 𝕄 := bigSep allCells fun x => semVal (cell c x) 0

theorem sems_eq (c : Dev nD) :
    (iprop(Pipeline.ownSems0 (Ix := ℕ) (Name := ℕ) (U := UU F) (Lvl := ℕ) (Val := Elt F) (τ := τ) osem c ∗ unscopedSems0 c) : sProp 𝕄)
      ⊣⊢ iprop(zeros c ∗ locals c) := by
  have hu : (unscopedSems0 c : sProp 𝕄) = semVal (cell c .bar) 0 := by
    unfold unscopedSems0; rw [bigSep_eq_bigSepL_of_eq [SemLoc.reg barS] (by decide) (by decide)]; rfl
  have ho : (Pipeline.ownSems0 (Ix := ℕ) (Name := ℕ) (U := UU F) (Lvl := ℕ) (Val := Elt F) (τ := τ) osem c : sProp 𝕄)
      = iprop(((bigSep Finset.univ fun t : Fin 2 × Fin 2 × Fin 2 => semVal (cell c (.send t.1 t.2.1 t.2.2)) 0)
          ∗ (bigSep Finset.univ fun t : Fin 2 × Fin 2 × Fin 2 => semVal (cell c (.recv t.1 t.2.1 t.2.2)) 0)
          ∗ bigSep Finset.univ fun b : Fin 2 => semVal (cell c (.cred b)) 0) ∗ locals c) := by
    unfold Pipeline.ownSems0
    rw [bigSep_univ_sum, bigSep_univ_sum, bigSep_univ_sum, bigSep_univ_sum, bigSep_univ_of_subsingleton ()]
    rfl
  unfold zeros
  rw [hu, ho, cells_kinds]
  constructor
  · iintro ⟨⟨⟨H1, H2, H3⟩, Hl⟩, Hb⟩
    isplitr [Hl]
    · isplitr [H3]
      · isplitr [H2]
        · isplitl [Hb]; · iexact Hb
          iexact H1
        · iexact H2
      · iexact H3
    · iexact Hl
  · iintro ⟨⟨⟨⟨Hb, H1⟩, H2⟩, H3⟩, Hl⟩
    isplitr [Hb]
    · isplitr [Hl]
      · isplitl [H1]; · iexact H1
        isplitl [H2]; · iexact H2
        iexact H3
      · iexact Hl
    · iexact Hb

/-! ## The ghost state dealt -/

/-- What all devices know of the put-back pieces and the write mode. -/
def known (J : Key → ℕ) (ιwm : ℕ) : sProp 𝕄 := iprop((bigSep keys fun k => slotInv ES (J k) k (slotOf V k)) ∗ wmInv (wmE F) ιwm)
instance known_persistent (J ιwm) : BI.Persistent (known V J ιwm) := by unfold known; infer_instance

/-- What device `c` alone holds: its places at its cells, the tokens of its payments, the put-back pieces it reads
    and those of the next devices that it writes. -/
def Share (c : Dev nD) : sProp 𝕄 :=
  iprop((bigSep allCells fun x => atPos ER (cell c x) 0 ∅ 0) ∗ toks c allP
    ∗ (bigSep Finset.univ fun b : Fin 2 => bigSep (Finset.range 10) fun m => readerAt ES (key c b m) 0)
    ∗ bigSep Finset.univ fun b : Fin 2 => bigSep (Finset.range 10) fun m => writeTok ES (key (dstD b c) b m) 1)

/-- What the launch element gives device `c`. -/
def G (c : Dev nD) : sProp 𝕄 :=
  iprop((∃ J ιwm, known V J ιwm) ∗ (bigSep allCells fun x => roundState ER (Rd V) (cell c x) 0)
    ∗ (bigSep allCells fun x => reached ER (cell c x) 0) ∗ Share c)

/-- What device `c` starts on. -/
def G' (c : Dev nD) : sProp 𝕄 :=
  iprop(∃ (K : Dev nD × Cell → ℕ) (J : Key → ℕ) (ιwm : ℕ), (((bigSep (Finset.univ ×ˢ allCells) fun cx : Dev nD × Cell => cellInv ER (Rd V) (K cx) (cell cx.1 cx.2))
    ∗ bigSep (Finset.univ ×ˢ allCells) fun cx : Dev nD × Cell => reached ER (cell cx.1 cx.2) 0) ∗ known V J ιwm) ∗ Share c ∗ locals c)

/-- The launch element. -/
def u₀ : UU F :=
  (initOf (Pipeline.cells cfgs cellOf_inj) (Pipeline.launchToks cfgs cellOf_inj), initOf cells allToks, initSlots keys 1, wm₀ nD τ sig (Elt F), 1)

theorem u₀_split : (ownU (u₀ (F := F)) : sProp 𝕄) ⊢ iprop(
    BI.own (EP (initOf (Pipeline.cells cfgs cellOf_inj) (Pipeline.launchToks cfgs cellOf_inj)))
    ∗ BI.own (ER (initOf cells allToks)) ∗ BI.own (ES (initSlots keys 1)) ∗ ownU (wmE F (wm₀ nD τ sig (Elt F)))) := by
  unfold u₀
  iintro H
  ihave H := (ownU_pair _ _) $$ H
  icases H with ⟨HP, H⟩
  ihave H := (own_pair_emb _ _ _) $$ H
  icases H with ⟨HR, H⟩
  ihave H := (own_pair_emb _ _ _) $$ H
  icases H with ⟨HS, H⟩
  ihave H := (own_pair_emb _ _ _) $$ H
  icases H with ⟨Hw, -⟩
  isplitl [HP]; · iexact HP
  isplitl [HR]; · iexact HR
  isplitl [HS]; · iexact HS
  iapply (show BI.own (((Emb.inl : Emb (WmRA nD τ sig (Elt F)) (WmRA nD τ sig (Elt F) × Counters)).trans
      ((Emb.inr : Emb _ (USlots Key × WmRA nD τ sig (Elt F) × Counters)).trans
        ((Emb.inr : Emb _ (URounds (GSem nD τ sig) ℕ × USlots Key × WmRA nD τ sig (Elt F) × Counters)).trans embR))) (wm₀ nD τ sig (Elt F)))
      ⊢ (ownU (wmE F (wm₀ nD τ sig (Elt F))) : sProp 𝕄) from Entails.of_eq rfl)
  iexact Hw

/-- A resource of all devices' cells, by device. -/
theorem by_device (Φ : GSem nD τ sig → sProp 𝕄) : bigSep cells Φ = bigSep Finset.univ fun c : Dev nD => bigSep allCells fun x => Φ (cell c x) := by
  rw [deal_cells, over_pairs]

theorem write_toks : (bigSep (keys ×ˢ Finset.range 1) fun x => (writeTok ES x.1 (x.2 + 1) : sProp 𝕄)) = bigSep keys fun k => writeTok ES k 1 := by
  rw [over_pairs]
  refine bigSep_congr fun k _ => ?_
  rw [Finset.range_one, bigSep_singleton]

theorem fund_all (m : MemSt nD τ sig (Elt F)) : (ownU (u₀ (F := F)) : sProp 𝕄) ⊢ |={Set.univ}=> iprop(
    BI.own (EP (initOf (Pipeline.cells cfgs cellOf_inj) (Pipeline.launchToks cfgs cellOf_inj))) ∗ bigSep Finset.univ (G V)) := by
  iintro H
  ihave H := (u₀_split (F := F)) $$ H
  icases H with ⟨HP, HR, HS, Hw⟩
  imod (Rounds.fund ER (Rd V) cells allToks) $$ HR with ⟨Hst, Hre, Hat, Htk⟩
  imod (slots_init ES keys 1 (slotOf V)) $$ HS with ⟨%J, -, #HI, Hrd, Hwr⟩
  imod (wmInv_alloc (emb := wmE F) m) $$ Hw with ⟨%ιwm, -, #Hwm⟩
  imodintro
  isplitl [HP]; · iexact HP
  ihave Hst := (Entails.of_eq (by_device _)) $$ Hst
  ihave Hre := (Entails.of_eq (by_device _)) $$ Hre
  ihave Hat := (Entails.of_eq (by_device _)) $$ Hat
  ihave Htk := (Entails.of_eq (deal_toks (F := F))) $$ Htk
  ihave Hrd := (Entails.of_eq (keys_deal _)) $$ Hrd
  ihave Hwr := (Entails.of_eq ((write_toks (F := F)).trans (keys_around _))) $$ Hwr
  iapply (bigSep_with_persistent (R := known V J ιwm) (Φ := fun c => iprop((bigSep allCells fun x => roundState ER (Rd V) (cell c x) 0)
    ∗ (bigSep allCells fun x => reached ER (cell c x) 0) ∗ Share c)) fun c _ => by
      unfold G
      iintro ⟨Hk, H⟩
      isplitl [Hk]; · iexists J, ιwm; iexact Hk
      iexact H)
  isplitr
  · unfold known
    isplitl
    · iexact HI
    · iexact Hwm
  · unfold Share
    simp only [bigSep_sep']
    isplitl [Hst]; · iexact Hst
    isplitl [Hre]; · iexact Hre
    isplitl [Hat]; · iexact Hat
    isplitl [Htk]; · iexact Htk
    isplitl [Hrd]; · iexact Hrd
    iexact Hwr

/-! ## The invariants -/

theorem cells_alloc (c : Dev nD) :
    iprop(zeros c ∗ bigSep allCells fun x => roundState ER (Rd V) (cell c x) 0)
      ⊢ (|={Set.univ}=> bigSep allCells fun x => iprop(∃ κ : ℕ, cellInv ER (Rd V) κ (cell c x)) : sProp 𝕄) := by
  unfold zeros
  rw [← bigSep_sep']
  exact (bigSep_mono fun x _ => (Rounds.body_intro ER (Rd V) (cell c x)).trans inv_alloc).trans (bigSep_fupd _ _)

theorem device_alloc (c : Dev nD) :
    iprop(Pipeline.ownSems0 (Ix := ℕ) (Name := ℕ) (U := UU F) (Lvl := ℕ) (Val := Elt F) (τ := τ) osem c ∗ unscopedSems0 c ∗ G V c)
      ⊢ |={Set.univ}=> iprop((bigSep allCells fun x => iprop(∃ κ : ℕ, cellInv ER (Rd V) κ (cell c x)))
          ∗ (bigSep allCells fun x => reached ER (cell c x) 0) ∗ (∃ J ιwm, known V J ιwm) ∗ Share c ∗ locals c) := by
  unfold G
  iintro ⟨Hos, Hus, Hk, Hst, Hre, Hsh⟩
  icombine Hos Hus as Hv
  ihave Hv := (sems_eq (F := F) c).1 $$ Hv
  icases Hv with ⟨Hz, Hl⟩
  imod (cells_alloc V c) $$ [Hz Hst] with HI
  · isplitl [Hz]; · iexact Hz
    iexact Hst
  imodintro
  isplitl [HI]; · iexact HI
  isplitl [Hre]; · iexact Hre
  isplitl [Hk]; · iexact Hk
  isplitl [Hsh]; · iexact Hsh
  iexact Hl

theorem regroup :
    (bigSep Finset.univ fun c : Dev nD => iprop((bigSep allCells fun x => iprop(∃ κ : ℕ, cellInv ER (Rd V) κ (cell c x)))
          ∗ (bigSep allCells fun x => reached ER (cell c x) 0) ∗ (∃ J ιwm, known V J ιwm) ∗ Share c ∗ locals c) : sProp 𝕄)
      ⊢ bigSep Finset.univ (G' V) := by
  rw [bigSep_sep', bigSep_sep', ← over_pairs Finset.univ allCells (fun cx : Dev nD × Cell => iprop(∃ κ : ℕ, cellInv ER (Rd V) κ (cell cx.1 cx.2))),
    ← over_pairs Finset.univ allCells (fun cx : Dev nD × Cell => (reached ER (cell cx.1 cx.2) 0 : sProp 𝕄))]
  iintro ⟨HI, #HR, H⟩
  ihave HK := (BI.bigSep_exists_pi _ (fun (cx : Dev nD × Cell) (κ : ℕ) => (cellInv ER (Rd V) κ (cell cx.1 cx.2) : sProp 𝕄))) $$ HI
  icases HK with ⟨%K, #HI⟩
  iapply (bigSep_with_persistent (R := iprop((bigSep (Finset.univ ×ˢ allCells) fun cx : Dev nD × Cell => cellInv ER (Rd V) (K cx) (cell cx.1 cx.2))
      ∗ bigSep (Finset.univ ×ˢ allCells) fun cx : Dev nD × Cell => reached ER (cell cx.1 cx.2) 0))
    (Φ := fun c => iprop((∃ J ιwm, known V J ιwm) ∗ Share c ∗ locals c)) fun c _ => by
      unfold G'
      iintro ⟨Hi, ⟨%J, %ιwm, Hk⟩, H⟩
      iexists K, J, ιwm
      isplitl [Hi Hk]
      · isplitl [Hi]; · iexact Hi
        iexact Hk
      iexact H)
  isplitr
  · isplitl
    · iexact HI
    · iexact HR
  · iexact H

/-- All devices' semaphores at once. -/
theorem glob : (bigSep Finset.univ fun c => iprop(Pipeline.ownSems0 (Ix := ℕ) (Name := ℕ) (U := UU F) (Lvl := ℕ) (Val := Elt F) (τ := τ) osem c
      ∗ unscopedSems0 c ∗ G V c) : sProp 𝕄)
    ⊢ |={Set.univ}=> bigSep Finset.univ (G' V) :=
  ((bigSep_mono fun c _ => device_alloc V c).trans (bigSep_fupd _ _)).trans (BI.fupd_mono (regroup V))

end Cert.KernelIdeal.Ring

end
-- ==== Proof.KernelIdealStart.lean ====
/-
  What a device starts with, put in the shape the body asks for: buffers cut into the pieces, strips and tiles
  it works on, the receive pieces cast into write mode, the credits handed to the steps that spend them.
-/
module

public import proofs.«01_k».proof.Proof.KernelIdealOpen

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

variable (V : Fin 2 → ℕ → Fin 2 → Dev nD → Vec F S1024x1024 .bf16)
variable (K : Dev nD × Cell → ℕ) (J : Key → ℕ) (ιwm : ℕ)

/-! ## Buffers cut up -/

/-- A whole buffer is its parts. -/
theorem cut {T : Type} [Fintype T] {ℓ : Loc nD τ sig} (S : T → Finset (Idx ℓ)) (hc : Finset.univ.biUnion S = Finset.univ)
    (hd : ∀ t t', t ≠ t' → Disjoint (S t) (S t')) (f : Buf (Elt F) ℓ) :
    (ℓ ↦{fullShare} f : sProp 𝕄) = bigSep Finset.univ fun t => ℓ ↦[S t]{fullShare} f := by
  rw [← pointsTo_biUnion Finset.univ S fun t _ t' _ h => hd t t' h, hc]

/-- Over two directions, two slots and two halves. -/
theorem octet (Φ : Fin 2 × Fin 2 × Fin 2 → sProp 𝕄) : bigSep Finset.univ Φ
    = bigSep Finset.univ fun b : Fin 2 => iprop((Φ (b, 0, 0) ∗ Φ (b, 0, 1)) ∗ (Φ (b, 1, 0) ∗ Φ (b, 1, 1))) := by
  rw [bigSep_univ_prod]
  refine bigSep_congr fun b _ => ?_
  rw [bigSep_univ_prod, bigSep_univ_two, bigSep_univ_two, bigSep_univ_two]
/-- Over two directions and two halves. -/
theorem quartet (Φ : Fin 2 × Fin 2 → sProp 𝕄) : bigSep Finset.univ Φ
    = bigSep Finset.univ fun b : Fin 2 => iprop(Φ (b, 0) ∗ Φ (b, 1)) := by
  rw [bigSep_univ_prod]
  refine bigSep_congr fun b _ => ?_
  rw [bigSep_univ_two]

theorem OC_set (b sub : Fin 2) : (OC b sub).view.set = (stripR b sub).set := View.set_slice_whole main_v1 (stripR b sub)
theorem WBstrip_set (b sub : Fin 2) : (WB.access (stripR b sub)).set = (stripR b sub).set := View.set_slice_whole cc0_scratch2 (stripR b sub)
theorem XTtile_set (b : Fin 2) : (XT.access (tileR b)).set = (tileR b).set := View.set_slice_whole cc0_scratch0 (tileR b)

theorem tiles_apart (p p' : Fin 2) (h : p ≠ p') : Disjoint (tileR p).set (tileR p').set := tiles_disjoint h
theorem strips_apart (t t' : Fin 2 × Fin 2) (h : t ≠ t') : Disjoint (stripR t.1 t.2).set (stripR t'.1 t'.2).set := strips_disjoint h
theorem pieces_apart (t t' : Fin 2 × Fin 2 × Fin 2) (h : t ≠ t') :
    Disjoint (pieceR t.1 t.2.1 t.2.2).set (pieceR t'.1 t'.2.1 t'.2.2).set := pieces_disjoint h

theorem XT_one (c : Dev nD) (b : Fin 2) (f : Buf (Elt F) ((c : Thread nD τ).loc cc0_scratch0)) :
    ((c : Thread nD τ).loc cc0_scratch0 ↦[(tileR b).set]{fullShare} f : sProp 𝕄) ⊢ iprop(∃ x, xtAt c b x) := by
  unfold xtAt
  iintro H
  iexists (XT.access (tileR b)).read (Elt F) f
  rw [XTtile_set]
  iapply (pts_of_eq fun i hi => by
    rw [← XTtile_set] at hi
    obtain ⟨x, -, rfl⟩ := Finset.mem_map.mp hi
    rw [View.rep_emb, View.read_apply, cast_cast, cast_eq]) $$ H
theorem cut_XT (c : Dev nD) (f : Buf (Elt F) ((c : Thread nD τ).loc cc0_scratch0)) :
    ((c : Thread nD τ).loc cc0_scratch0 ↦{fullShare} f : sProp 𝕄) ⊢ bigSep Finset.univ fun b : Fin 2 => iprop(∃ x, xtAt c b x) := by
  rw [cut (ℓ := (c : Thread nD τ).loc cc0_scratch0) (fun b : Fin 2 => (tileR b).set) tiles_cover tiles_apart]
  exact bigSep_mono fun t _ => XT_one c t f

theorem WB_one (c : Dev nD) (b sub : Fin 2) (f : Buf (Elt F) ((c : Thread nD τ).loc cc0_scratch2)) :
    ((c : Thread nD τ).loc cc0_scratch2 ↦[(stripR b sub).set]{fullShare} f : sProp 𝕄) ⊢ wbAny c b sub := by
  unfold wbAny
  rw [WBstrip_set]
  iintro H
  iexists f
  iexact H
theorem cut_WB (c : Dev nD) (f : Buf (Elt F) ((c : Thread nD τ).loc cc0_scratch2)) :
    ((c : Thread nD τ).loc cc0_scratch2 ↦{fullShare} f : sProp 𝕄) ⊢ bigSep Finset.univ fun b : Fin 2 => iprop(wbAny c b 0 ∗ wbAny c b 1) := by
  rw [cut (ℓ := (c : Thread nD τ).loc cc0_scratch2) (fun t : Fin 2 × Fin 2 => (stripR t.1 t.2).set) strips_cover strips_apart, ← quartet fun t => wbAny c t.1 t.2]
  exact bigSep_mono fun t _ => WB_one c t.1 t.2 f

theorem O_one (c : Dev nD) (b sub : Fin 2) (f : Buf (Elt F) ((c : Thread nD τ).loc main_v1)) :
    ((c : Thread nD τ).loc main_v1 ↦[(stripR b sub).set]{fullShare} f : sProp 𝕄) ⊢ ocAny c b sub := by
  unfold ocAny
  rw [OC_set]
  iintro H
  iexists f
  iexact H
theorem cut_O (c : Dev nD) (f : Buf (Elt F) ((c : Thread nD τ).loc main_v1)) :
    ((c : Thread nD τ).loc main_v1 ↦{fullShare} f : sProp 𝕄) ⊢ bigSep Finset.univ fun b : Fin 2 => iprop(ocAny c b 0 ∗ ocAny c b 1) := by
  rw [cut (ℓ := (c : Thread nD τ).loc main_v1) (fun t : Fin 2 × Fin 2 => (stripR t.1 t.2).set) strips_cover strips_apart, ← quartet fun t => ocAny c t.1 t.2]
  exact bigSep_mono fun t _ => O_one c t.1 t.2 f

theorem OS_one (c : Dev nD) (p : Fin 2) (f : Buf (Elt F) ((c : Thread nD τ).loc cc0_scratch5)) :
    ((c : Thread nD τ).loc cc0_scratch5 ↦[(tileR p).set]{fullShare} f : sProp 𝕄) ⊢ iprop(∃ f, (OT p).view.loc (c : Thread nD τ) ↦[(OT p).view.set]{fullShare} f) := by
  rw [OT_set]
  iintro H
  iexists f
  iexact H
theorem cut_OS (c : Dev nD) (f : Buf (Elt F) ((c : Thread nD τ).loc cc0_scratch5)) :
    ((c : Thread nD τ).loc cc0_scratch5 ↦{fullShare} f : sProp 𝕄)
      ⊢ bigSep Finset.univ fun p : Fin 2 => iprop(∃ f, (OT p).view.loc (c : Thread nD τ) ↦[(OT p).view.set]{fullShare} f) := by
  rw [cut (ℓ := (c : Thread nD τ).loc cc0_scratch5) (fun b : Fin 2 => (tileR b).set) tiles_cover tiles_apart]
  exact bigSep_mono fun t _ => OS_one c t f

theorem SB_one (c : Dev nD) (b p sub : Fin 2) (f : Buf (Elt F) ((c : Thread nD τ).loc cc0_scratch3)) :
    ((c : Thread nD τ).loc cc0_scratch3 ↦[(pieceR b p sub).set]{fullShare} f : sProp 𝕄) ⊢ iprop(∃ v, sp c b p sub fullShare v) := by
  unfold sp
  iintro H
  iexists (SP b p sub).view.read (Elt F) f
  iapply (pointsTo_rep_of_read (c : Thread nD τ) (SP b p sub) f fullShare _ rfl)
  rw [SP_set]
  iexact H
theorem cut_SB (c : Dev nD) (f : Buf (Elt F) ((c : Thread nD τ).loc cc0_scratch3)) :
    ((c : Thread nD τ).loc cc0_scratch3 ↦{fullShare} f : sProp 𝕄)
      ⊢ bigSep Finset.univ fun t : Fin 2 × Fin 2 × Fin 2 => iprop(∃ v, sp c t.1 t.2.1 t.2.2 fullShare v) := by
  rw [cut (ℓ := (c : Thread nD τ).loc cc0_scratch3) (fun t : Fin 2 × Fin 2 × Fin 2 => (pieceR t.1 t.2.1 t.2.2).set) pieces_cover pieces_apart]
  exact bigSep_mono fun t _ => SB_one c t.1 t.2.1 t.2.2 f

theorem RB_one (c : Dev nD) (b p sub : Fin 2) (f : Buf (Elt F) ((c : Thread nD τ).loc cc0_scratch4)) :
    ((c : Thread nD τ).loc cc0_scratch4 ↦[(pieceR b p sub).set]{fullShare} f : sProp 𝕄) ⊢ iprop(∃ v, rp c b p sub v) := by
  unfold rp
  iintro H
  iexists (RP b p sub).view.read (Elt F) f
  iapply (pointsTo_rep_of_read (c : Thread nD τ) (RP b p sub) f fullShare _ rfl)
  rw [RP_set]
  iexact H
theorem cut_RB (c : Dev nD) (f : Buf (Elt F) ((c : Thread nD τ).loc cc0_scratch4)) :
    ((c : Thread nD τ).loc cc0_scratch4 ↦{fullShare} f : sProp 𝕄)
      ⊢ bigSep Finset.univ fun t : Fin 2 × Fin 2 × Fin 2 => iprop(∃ v, rp c t.1 t.2.1 t.2.2 v) := by
  rw [cut (ℓ := (c : Thread nD τ).loc cc0_scratch4) (fun t : Fin 2 × Fin 2 × Fin 2 => (pieceR t.1 t.2.1 t.2.2).set) pieces_cover pieces_apart]
  exact bigSep_mono fun t _ => RB_one c t.1 t.2.1 t.2.2 f

/-! ## Credits by the step that spends them -/

/-- Ten things in turn for the two halves. -/
theorem ten (Φ : ℕ → sProp 𝕄) : bigSep (Finset.range 10) Φ
    = iprop((bigSep (Finset.range 5) fun r => Φ (2 * r + (0 : Fin 2).val)) ∗ bigSep (Finset.range 5) fun r => Φ (2 * r + (1 : Fin 2).val)) := by
  have e : Finset.range 10 = ((Finset.univ : Finset (Fin 2)) ×ˢ Finset.range 5).image fun t => 2 * t.2 + t.1.val := by decide
  rw [e, bigSep_image_of_injOn (by
    rintro ⟨a, r⟩ _ ⟨a', r'⟩ _ h
    have h : 2 * r + a.val = 2 * r' + a'.val := h
    have := a.isLt
    have := a'.isLt
    exact Prod.ext (Fin.ext (by show a.val = a'.val; omega)) (by show r = r'; omega)), over_pairs, bigSep_univ_two]

/-- Seven things: the first two, and the rest. -/
theorem seven (Φ : ℕ → sProp 𝕄) : bigSep (Finset.range 7) Φ = iprop(Φ 0 ∗ Φ 1 ∗ bigSep (Finset.range 5) fun r => Φ (r + 2)) := by
  have e : Finset.range 7 = insert 0 (insert 1 ((Finset.range 5).image fun r => r + 2)) := by decide
  rw [e, bigSep_insert (by decide), bigSep_insert (by decide), bigSep_image_of_injOn fun _ _ _ _ h => Nat.add_right_cancel h]
  rfl

theorem givers (c : Dev nD) (b sub : Fin 2) :
    (iprop((bigSep (Finset.range 5) fun r => readerAt ES (key c b (2 * r + sub.val)) 0)
        ∗ bigSep (Finset.range 5) fun r => cred (due c (.send b (r + 2) sub))) : sProp 𝕄)
      ⊢ bigSep (Finset.Icc 0 5) fun r => giveTok c b r sub := by
  have e : (bigSep (Finset.Icc 0 5) fun r => giveTok c b r sub : sProp 𝕄)
      = iprop(giveTok c b 5 sub ∗ bigSep (Finset.range 5) fun r => giveTok c b r sub) := by
    rw [show Finset.Icc 0 5 = insert 5 (Finset.range 5) by decide, bigSep_insert (by decide)]
    rfl
  have h : ∀ r ∈ Finset.range 5, (iprop(readerAt ES (key c b (2 * r + sub.val)) 0
      ∗ cred (due c (.send b (r + 2) sub))) : sProp 𝕄) = giveTok c b r sub := fun r hr => by
    unfold giveTok
    rw [if_pos (by have := Finset.mem_range.mp hr; omega)]
    rfl
  rw [e, ← bigSep_congr h, bigSep_sep']
  iintro H
  isplitr
  · unfold giveTok
    iempintro
  · iexact H

theorem takers (c : Dev nD) (b sub : Fin 2) :
    (iprop((bigSep (Finset.range 5) fun r => cred (due c (.cred b (2 * r + sub.val))))
        ∗ bigSep (Finset.range 5) fun r => writeTok ES (key (dstD b c) b (2 * r + sub.val)) 1) : sProp 𝕄)
      ⊢ bigSep (Finset.Icc 1 5) fun r => takeTok V c b r sub := by
  have h : ∀ r ∈ Finset.range 5, (iprop(cred (due c (.cred b (2 * r + sub.val)))
      ∗ writeTok ES (key (dstD b c) b (2 * r + sub.val)) 1) : sProp 𝕄) = takeTok V c b (r + 1) sub := fun r _ => by
    unfold takeTok
    rw [if_neg (Nat.succ_ne_zero r), Nat.add_sub_cancel]
    rfl
  rw [show Finset.Icc 1 5 = (Finset.range 5).image fun r => r + 1 by decide,
    bigSep_image_of_injOn fun _ _ _ _ h => Nat.add_right_cancel h, ← bigSep_congr h, bigSep_sep']

/-! ## A piece, a direction, a device -/

/-- What one half of a direction's columns starts from. -/
def pieceStart (c : Dev nD) (b sub : Fin 2) : sProp 𝕄 :=
  iprop((∃ v, sp c b 0 sub fullShare v) ∗ (∃ v, sp c b 1 sub fullShare v) ∗ (∃ v, rp c b 0 sub v) ∗ (∃ v, rp c b 1 sub v)
    ∗ atPos ER (cell c (.send b 0 sub)) 0 ∅ 0 ∗ atPos ER (cell c (.send b 1 sub)) 0 ∅ 0
    ∗ atPos ER (cell c (.recv b 0 sub)) 0 ∅ 0 ∗ atPos ER (cell c (.recv b 1 sub)) 0 ∅ 0
    ∗ (bigSep (Finset.range 7) fun u => cred (due c (.send b u sub)))
    ∗ (bigSep (Finset.range 5) fun r => cred (due c (.cred b (2 * r + sub.val))))
    ∗ (bigSep (Finset.range 5) fun r => readerAt ES (key c b (2 * r + sub.val)) 0)
    ∗ bigSep (Finset.range 5) fun r => writeTok ES (key (dstD b c) b (2 * r + sub.val)) 1)

theorem piece_start (c : Dev nD) (b sub : Fin 2) : iprop(ctx V K J ιwm ∗ pieceStart c b sub)
    ⊢ |={Set.univ}=> iprop((grant V c b 0 sub ∗ grant V c b 1 sub) ∗ ((∃ v, sp c b 0 sub fullShare v) ∗ Idle c b 0 sub) ∗ Pc' V c b sub) := by
  unfold pieceStart
  rw [seven]
  iintro ⟨#Hctx, Hs0, Hs1, ⟨%v0, Hr0⟩, ⟨%v1, Hr1⟩, Ha0, Ha1, Hb0, Hb1, ⟨Hc0, Hc1, Hc⟩, Hd, Hr, Hw⟩
  ihave #Hwm := (show ctx V K J ιwm ⊢ wmInv (wmE F) ιwm by unfold ctx; iintro ⟨-, -, -, H, -⟩; iexact H) $$ Hctx
  icombine Hwm Hr0 as H0
  imod (cast_in ιwm c b 0 sub v0 (V b 0 sub (upD b c))) $$ H0 with ⟨Hl0, Hg0⟩
  icombine Hwm Hr1 as H1
  imod (cast_in ιwm c b 1 sub v1 (V b 1 sub (upD b c))) $$ H1 with ⟨Hl1, Hg1⟩
  imodintro
  isplitl [Hg0 Hg1]
  · isplitl [Hg0]
    · iapply (Entails.of_eq (show rw c b 0 sub fullShare.right (V b 0 sub (upD b c)) ∅ = grant V c b 0 sub from rfl)) $$ Hg0
    · iapply (Entails.of_eq (show rw c b 1 sub fullShare.right (V b 1 sub (upD b c)) ∅ = grant V c b 1 sub from rfl)) $$ Hg1
  isplitl [Hs0 Ha0]
  · isplitl [Hs0]; · iexact Hs0
    unfold Idle
    isplitl [Ha0]; · iexact Ha0
    iapply (ctx_reached V K J ιwm c (.send b 0 sub)) $$ Hctx
  unfold Pc' Prev Await futs'
  rw [if_pos rfl]
  isplitl [Hs1 Ha1]
  · isplitl [Hs1]; · iexact Hs1
    unfold Idle
    isplitl [Ha1]; · iexact Ha1
    iapply (ctx_reached V K J ιwm c (.send b 1 sub)) $$ Hctx
  isplitl [Hl0 Hb0 Hc0]
  · isplitl [Hl0]; · iexact Hl0
    isplitl [Hb0]; · iexact Hb0
    iexact Hc0
  isplitl [Hl1 Hb1 Hc1]
  · isplitl [Hl1]; · iexact Hl1
    isplitl [Hb1]; · iexact Hb1
    iexact Hc1
  isplitl [Hr Hc]
  · icombine Hr Hc as H
    iapply (givers c b sub) $$ H
  · icombine Hd Hw as H
    iapply (takers V c b sub) $$ H

/-- What a direction starts from. -/
def dirStart (c : Dev nD) (b : Fin 2) : sProp 𝕄 :=
  iprop((∃ x, xtAt c b x) ∗ (wbAny c b 0 ∗ wbAny c b 1) ∗ atPos ER (cell c (.cred b)) 0 ∅ 0 ∗ pieceStart c b 0 ∗ pieceStart c b 1)

theorem dir_start (c : Dev nD) (b : Fin 2) : iprop(ctx V K J ιwm ∗ dirStart c b)
    ⊢ |={Set.univ}=> iprop(barPay V c b ∗ Dir' V c b) := by
  unfold dirStart barPay Dir'
  iintro ⟨#Hctx, Hx, Hw, Hc, H0, H1⟩
  icombine Hctx H0 as H0
  imod (piece_start V K J ιwm c b 0) $$ H0 with ⟨⟨Hg00, Hg10⟩, Hs0, Hp0⟩
  icombine Hctx H1 as H1
  imod (piece_start V K J ιwm c b 1) $$ H1 with ⟨⟨Hg01, Hg11⟩, Hs1, Hp1⟩
  imodintro
  isplitl [Hg00 Hg01 Hg10 Hg11]
  · isplitl [Hg00 Hg01]
    · isplitl [Hg00]; · iexact Hg00
      iexact Hg01
    · isplitl [Hg10]; · iexact Hg10
      iexact Hg11
  isplitl [Hx]; · iexact Hx
  isplitl [Hw]; · iexact Hw
  isplitl [Hs0 Hs1]
  · isplitl [Hs0]; · iexact Hs0
    iexact Hs1
  isplitl [Hc]; · iapply (CAt_zero c b) $$ Hc
  isplitl [Hp0]; · iexact Hp0
  iexact Hp1

/-- The barrier's two units. -/
theorem bar_due (c : Dev nD) : (bigSep Finset.univ fun b : Fin 2 => cred (due c (.bar b)) : sProp 𝕄) ⊢ cred (tallyAt (cell c .bar) 0 2) := by
  rw [bigSep_univ_two]
  have e : (tallyAt (cell c .bar) 0 2 : CellTallies nD τ sig ℕ) = due c (.bar 0) + due c (.bar 1) :=
    (tallyAt_add (cell c .bar) 0 1 1).symm
  rw [e]
  exact (cred_add _ _).2

theorem one_dir (c : Dev nD) (b : Fin 2) : iprop((∃ x, xtAt c b x) ∗ (wbAny c b 0 ∗ wbAny c b 1)
      ∗ (((∃ v, sp c b 0 0 fullShare v) ∗ ∃ v, sp c b 0 1 fullShare v) ∗ (∃ v, sp c b 1 0 fullShare v) ∗ ∃ v, sp c b 1 1 fullShare v)
      ∗ (((∃ v, rp c b 0 0 v) ∗ ∃ v, rp c b 0 1 v) ∗ (∃ v, rp c b 1 0 v) ∗ ∃ v, rp c b 1 1 v)
      ∗ (((atPos ER (cell c (.send b 0 0)) 0 ∅ 0 ∗ atPos ER (cell c (.send b 0 1)) 0 ∅ 0)
          ∗ atPos ER (cell c (.send b 1 0)) 0 ∅ 0 ∗ atPos ER (cell c (.send b 1 1)) 0 ∅ 0)
        ∗ ((atPos ER (cell c (.recv b 0 0)) 0 ∅ 0 ∗ atPos ER (cell c (.recv b 0 1)) 0 ∅ 0)
          ∗ atPos ER (cell c (.recv b 1 0)) 0 ∅ 0 ∗ atPos ER (cell c (.recv b 1 1)) 0 ∅ 0)
        ∗ atPos ER (cell c (.cred b)) 0 ∅ 0)
      ∗ ((bigSep (Finset.range 7) fun u => cred (due c (.send b u 0))) ∗ bigSep (Finset.range 7) fun u => cred (due c (.send b u 1)))
      ∗ ((bigSep (Finset.range 5) fun r => cred (due c (.cred b (2 * r + (0 : Fin 2).val))))
        ∗ bigSep (Finset.range 5) fun r => cred (due c (.cred b (2 * r + (1 : Fin 2).val))))
      ∗ ((bigSep (Finset.range 5) fun r => readerAt ES (key c b (2 * r + (0 : Fin 2).val)) 0)
        ∗ bigSep (Finset.range 5) fun r => readerAt ES (key c b (2 * r + (1 : Fin 2).val)) 0)
      ∗ (bigSep (Finset.range 5) fun r => writeTok ES (key (dstD b c) b (2 * r + (0 : Fin 2).val)) 1)
        ∗ bigSep (Finset.range 5) fun r => writeTok ES (key (dstD b c) b (2 * r + (1 : Fin 2).val)) 1)
    ⊢ (dirStart c b : sProp 𝕄) := by
  unfold dirStart pieceStart
  iintro ⟨Hx, Hw, ⟨⟨S00, S01⟩, S10, S11⟩, ⟨⟨R00, R01⟩, R10, R11⟩, ⟨⟨⟨A00, A01⟩, A10, A11⟩, ⟨⟨B00, B01⟩, B10, B11⟩, Hc⟩, ⟨C0, C1⟩, ⟨D0, D1⟩, ⟨E0, E1⟩, F0, F1⟩
  isplitl [Hx]; · iexact Hx
  isplitl [Hw]; · iexact Hw
  isplitl [Hc]; · iexact Hc
  isplitl [S00 S10 R00 R10 A00 A10 B00 B10 C0 D0 E0 F0]
  · isplitl [S00]; · iexact S00
    isplitl [S10]; · iexact S10
    isplitl [R00]; · iexact R00
    isplitl [R10]; · iexact R10
    isplitl [A00]; · iexact A00
    isplitl [A10]; · iexact A10
    isplitl [B00]; · iexact B00
    isplitl [B10]; · iexact B10
    isplitl [C0]; · iexact C0
    isplitl [D0]; · iexact D0
    isplitl [E0]; · iexact E0
    iexact F0
  · isplitl [S01]; · iexact S01
    isplitl [S11]; · iexact S11
    isplitl [R01]; · iexact R01
    isplitl [R11]; · iexact R11
    isplitl [A01]; · iexact A01
    isplitl [A11]; · iexact A11
    isplitl [B01]; · iexact B01
    isplitl [B11]; · iexact B11
    isplitl [C1]; · iexact C1
    isplitl [D1]; · iexact D1
    isplitl [E1]; · iexact E1
    iexact F1

/-- A device's resources by direction. -/
theorem by_dir (c : Dev nD) : iprop((bigSep Finset.univ fun b : Fin 2 => iprop(∃ x, xtAt c b x))
      ∗ (bigSep Finset.univ fun b : Fin 2 => iprop(wbAny c b 0 ∗ wbAny c b 1))
      ∗ (bigSep Finset.univ fun t : Fin 2 × Fin 2 × Fin 2 => iprop(∃ v, sp c t.1 t.2.1 t.2.2 fullShare v))
      ∗ (bigSep Finset.univ fun t : Fin 2 × Fin 2 × Fin 2 => iprop(∃ v, rp c t.1 t.2.1 t.2.2 v))
      ∗ ((bigSep Finset.univ fun t : Fin 2 × Fin 2 × Fin 2 => atPos ER (cell c (.send t.1 t.2.1 t.2.2)) 0 ∅ 0)
      ∗ (bigSep Finset.univ fun t : Fin 2 × Fin 2 × Fin 2 => atPos ER (cell c (.recv t.1 t.2.1 t.2.2)) 0 ∅ 0)
      ∗ bigSep Finset.univ fun b : Fin 2 => atPos ER (cell c (.cred b)) 0 ∅ 0)
      ∗ (bigSep Finset.univ fun t : Fin 2 × Fin 2 => bigSep (Finset.range 7) fun u => cred (due c (.send t.1 u t.2)))
      ∗ (bigSep Finset.univ fun b : Fin 2 => bigSep (Finset.range 10) fun n => cred (due c (.cred b n)))
      ∗ (bigSep Finset.univ fun b : Fin 2 => bigSep (Finset.range 10) fun m => readerAt ES (key c b m) 0)
      ∗ bigSep Finset.univ fun b : Fin 2 => bigSep (Finset.range 10) fun m => writeTok ES (key (dstD b c) b m) 1)
    ⊢ (iprop(dirStart c 0 ∗ dirStart c 1) : sProp 𝕄) := by
  rw [octet, octet, octet, octet, quartet, ← bigSep_univ_two]
  simp only [ten, ← bigSep_sep' (Finset.univ : Finset (Fin 2))]
  exact bigSep_mono fun b _ => one_dir c b

/-! ## The whole device -/

variable (A : Dev nD → X.view.ty.Contents (Elt F)) (B : Dev nD → W.view.ty.Contents (Elt F))

/-- What a device starts on: its blocks of the two arguments, a block for the result, its scratch buffers, the
    order of levels, its credits and its part of the shared state. -/
def Start (c : Dev nD) : sProp 𝕄 :=
  iprop((((c : Thread nD τ).loc main_arg0) ↦{fullShare} A c) ∗ (((c : Thread nD τ).loc main_arg1) ↦{fullShare} B c)
    ∗ (∃ f : Buf (Elt F) ((c : Thread nD τ).loc main_v1), ((c : Thread nD τ).loc main_v1) ↦{fullShare} f)
    ∗ Pipeline.scopedRest cfg0.spec c ∗ levAts L lev ∗ Pipeline.launchCred (fun d => owedOf d allP) c ∗ G' V c)

theorem XF_set : XF.view.set = Finset.univ := View.set_whole cc0_scratch1

theorem device_start (c : Dev nD) : iprop(Start V A B c ∗ ∃ W, owes (c : Thread nD τ) (owedOf c allP) W)
    ⊢ |={Set.univ}=> iprop(∃ (K : Dev nD × Cell → ℕ) (J : Key → ℕ) (ιwm : ℕ), ctx V K J ιwm ∗ fetches A B c
        ∗ (barPay V c 0 ∗ barPay V c 1 ∗ atPos ER (cell c .bar) 0 ∅ 0 ∗ cred (tallyAt (cell c .bar) 0 2))
        ∗ ((stage c 0 ∗ stage c 1) ∗ (ocAny c 0 0 ∗ ocAny c 0 1) ∗ (ocAny c 1 0 ∗ ocAny c 1 1))
        ∗ Dir' V c 0 ∗ Dir' V c 1 ∗ Owing c allP) := by
  unfold Start G' Share locals Owing
  rw [scopedRest0_eq, deal_creds, pays_kinds, cells_kinds]
  iintro ⟨⟨HX, HW, ⟨%fo, HO⟩, ⟨⟨%f0, H0⟩, ⟨%f1, H1⟩, ⟨%f2, H2⟩, ⟨%f3, H3⟩, ⟨%f4, H4⟩, ⟨%f5, H5⟩⟩, #Hlev, ⟨⟨Hdb, Hds⟩, Hdc⟩,
    ⟨%K, %J, %ιwm, ⟨⟨#Hinv, #Hre⟩, #Hkn⟩, ⟨⟨⟨⟨Hab, Has⟩, Har⟩, Hac⟩, Htk, Hrd, Hwr⟩, Hxf, Hout⟩⟩, How⟩
  ihave #Hctx : ctx V K J ιwm $$ []
  · unfold known ctx
    icases Hkn with ⟨#Hk1, #Hk2⟩
    isplitr; · iexact Hinv
    isplitr; · iexact Hre
    isplitr; · iexact Hk1
    isplitr; · iexact Hk2
    iexact Hlev
  ihave H0 := (cut_XT c f0) $$ H0
  ihave H2 := (cut_WB c f2) $$ H2
  ihave H3 := (cut_SB c f3) $$ H3
  ihave H4 := (cut_RB c f4) $$ H4
  ihave H5 := (cut_OS c f5) $$ H5
  ihave HO := (cut_O c fo) $$ HO
  ihave HO := (Entails.of_eq (bigSep_univ_two _)) $$ HO
  ihave H5 := (Entails.of_eq (bigSep_univ_two _)) $$ H5
  ihave Hout := (Entails.of_eq (bigSep_univ_two _)) $$ Hout
  ihave HD := (by_dir (F := F) c) $$ [H0 H2 H3 H4 Has Har Hac Hds Hdc Hrd Hwr]
  · isplitl [H0]; · iexact H0
    isplitl [H2]; · iexact H2
    isplitl [H3]; · iexact H3
    isplitl [H4]; · iexact H4
    isplitl [Has Har Hac]
    · isplitl [Has]; · iexact Has
      isplitl [Har]; · iexact Har
      iexact Hac
    isplitl [Hds]; · iexact Hds
    isplitl [Hdc]; · iexact Hdc
    isplitl [Hrd]; · iexact Hrd
    iexact Hwr
  icases HD with ⟨HD0, HD1⟩
  icombine Hctx HD0 as HD0
  imod (dir_start V K J ιwm c 0) $$ HD0 with ⟨Hp0, HD0⟩
  icombine Hctx HD1 as HD1
  imod (dir_start V K J ιwm c 1) $$ HD1 with ⟨Hp1, HD1⟩
  imodintro
  iexists K, J, ιwm
  isplitr; · iexact Hctx
  isplitl [HX HW H1 Hxf]
  · unfold fetches
    rw [XF_set]
    isplitl [HX]; · iexact HX
    isplitl [HW]; · iexact HW
    isplitl [H1]; · iexists f1; iexact H1
    iexact Hxf
  isplitl [Hp0 Hp1 Hab Hdb]
  · isplitl [Hp0]; · iexact Hp0
    isplitl [Hp1]; · iexact Hp1
    isplitl [Hab]; · iexact Hab
    iapply (bar_due c) $$ Hdb
  isplitl [H5 Hout HO]
  · icases H5 with ⟨H50, H51⟩
    icases Hout with ⟨Hu0, Hu1⟩
    unfold stage
    isplitl [H50 H51 Hu0 Hu1]
    · isplitl [H50 Hu0]
      · isplitl [H50]; · iexact H50
        iexact Hu0
      · isplitl [H51]; · iexact H51
        iexact Hu1
    · iexact HO
  isplitl [HD0]; · iexact HD0
  isplitl [HD1]; · iexact HD1
  isplitl [How]; · iexact How
  iexact Htk

end Cert.KernelIdeal.Ring

end
-- ==== Proof.KernelIdealStop.lean ====
/-
  What a device ends with, put back: buffers joined whole, every cell closed with its counter at zero, the result's
  block with the contents the body left.
-/
module

public import proofs.«01_k».proof.Proof.KernelIdealStart

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ (UU F) ℕ

variable (V : Fin 2 → ℕ → Fin 2 → Dev nD → Vec F S1024x1024 .bf16)
variable (K : Dev nD × Cell → ℕ) (J : Key → ℕ) (ιwm : ℕ)

/-! ## Cells closed -/

/-- A cell past its last round gives its counter back, at zero. -/
theorem close (c : Dev nD) (x : Cell) (R : ℕ) (hR : ∀ r, R ≤ r → dutiesOf x r = ∅) :
    iprop(ctx V K J ιwm ∗ atPos ER (cell c x) R ∅ 0) ⊢ |={Set.univ}=> semVal (cell c x) 0 := by
  iintro ⟨#Hctx, Ha⟩
  iapply (Rounds.cell_close ER (Rd V) (κ := K (c, x)) (Set.mem_univ _) (fun h => h) (R := R)
    fun r hr => (duties_cell V c x r).trans (hR r hr)) $$ [Ha]
  isplitr
  · iapply (ctx_inv V K J ιwm c x) $$ Hctx
  · iexact Ha

theorem close_send (c : Dev nD) (b sub : Fin 2) (u : ℕ) (hu : 7 ≤ u) :
    iprop(ctx V K J ιwm ∗ Idle c b u sub) ⊢ |={Set.univ}=> semVal (cell c (.send b (par u) sub)) 0 := by
  unfold Idle
  iintro ⟨#Hctx, Ha, -⟩
  icombine Hctx Ha as H
  iapply (close V K J ιwm c (.send b (par u) sub) (u / 2) fun r hr => if_neg (by have := use_eq u; omega)) $$ H
theorem close_recv (c : Dev nD) (b sub : Fin 2) (u : ℕ) (hu : 7 ≤ u) :
    iprop(ctx V K J ιwm ∗ RIdle c b u sub) ⊢ |={Set.univ}=> semVal (cell c (.recv b (par u) sub)) 0 := by
  unfold RIdle
  iintro ⟨#Hctx, Ha, -⟩
  icombine Hctx Ha as H
  iapply (close V K J ιwm c (.recv b (par u) sub) (u / 2) fun r hr => if_neg (by have := use_eq u; omega)) $$ H
theorem close_cred (c : Dev nD) (b : Fin 2) :
    iprop(ctx V K J ιwm ∗ CAt c b 10) ⊢ |={Set.univ}=> semVal (cell c (.cred b)) 0 := by
  unfold CAt
  rw [if_pos rfl]
  exact close V K J ιwm c (.cred b) 1 fun r hr => if_neg (by omega)
theorem close_bar (c : Dev nD) :
    iprop(ctx V K J ιwm ∗ atPos ER (cell c .bar) 1 ∅ 0) ⊢ |={Set.univ}=> semVal (cell c .bar) 0 :=
  close V K J ιwm c .bar 1 fun r hr => if_neg (by omega)

/-! ## Buffers joined -/

instance buf_nonempty (ℓ : Loc nD τ sig) : Nonempty (Buf (Elt F) ℓ) := ⟨fun _ => default⟩

/-- Parts of a buffer at known contents are the whole buffer at contents that agree on each part. -/
theorem mend_at {T : Type} [Fintype T] {ℓ : Loc nD τ sig} (S : T → Finset (Idx ℓ)) (hc : Finset.univ.biUnion S = Finset.univ)
    (hd : ∀ t t', t ≠ t' → Disjoint (S t) (S t')) (fs : T → Buf (Elt F) ℓ) :
    (bigSep Finset.univ fun t => ℓ ↦[S t]{fullShare} fs t : sProp 𝕄)
      ⊢ iprop(∃ g : Buf (Elt F) ℓ, ⌜∀ t, ∀ i ∈ S t, g i = fs t i⌝ ∗ ℓ ↦{fullShare} g) := by
  iintro H
  ihave H := (pointsTo_biUnion_join Finset.univ S fs (fun _ => default) fun t _ t' _ h => hd t t' h) $$ H
  icases H with ⟨%g, %hg, H⟩
  iexists g
  isplitr; · ipureintro; exact fun t => hg t (Finset.mem_univ t)
  rw [← hc]
  iexact H

/-- Parts of a buffer at any contents are the whole buffer at some contents. -/
theorem mend {T : Type} [Fintype T] {ℓ : Loc nD τ sig} (S : T → Finset (Idx ℓ)) (hc : Finset.univ.biUnion S = Finset.univ)
    (hd : ∀ t t', t ≠ t' → Disjoint (S t) (S t')) :
    (bigSep Finset.univ fun t => iprop(∃ f : Buf (Elt F) ℓ, ℓ ↦[S t]{fullShare} f) : sProp 𝕄)
      ⊢ iprop(∃ g : Buf (Elt F) ℓ, ℓ ↦{fullShare} g) := by
  classical
  iintro H
  ihave H := (BI.bigSep_exists_pi Finset.univ fun (t : T) (f : Buf (Elt F) ℓ) => (ℓ ↦[S t]{fullShare} f : sProp 𝕄)) $$ H
  icases H with ⟨%fs, H⟩
  ihave H := (mend_at S hc hd fs) $$ H
  icases H with ⟨%g, -, H⟩
  iexists g
  iexact H

theorem mend_XT (c : Dev nD) : (iprop((∃ x, xtAt c 0 x) ∗ ∃ x, xtAt c 1 x) : sProp 𝕄)
    ⊢ iprop(∃ g : Buf (Elt F) ((c : Thread nD τ).loc cc0_scratch0), ((c : Thread nD τ).loc cc0_scratch0) ↦{fullShare} g) := by
  refine BIBase.Entails.trans ?_ (mend (ℓ := (c : Thread nD τ).loc cc0_scratch0) (fun b : Fin 2 => (tileR b).set) tiles_cover tiles_apart)
  rw [bigSep_univ_two]
  unfold xtAt
  rw [XTtile_set, XTtile_set]
  iintro ⟨⟨%x, H0⟩, ⟨%y, H1⟩⟩
  isplitl [H0]
  · iexists (XT.access (tileR 0)).rep x; iexact H0
  · iexists (XT.access (tileR 1)).rep y; iexact H1

theorem mend_OS (c : Dev nD) : (iprop((∃ f, (OT 0).view.loc (c : Thread nD τ) ↦[(OT 0).view.set]{fullShare} f)
      ∗ ∃ f, (OT 1).view.loc (c : Thread nD τ) ↦[(OT 1).view.set]{fullShare} f) : sProp 𝕄)
    ⊢ iprop(∃ g : Buf (Elt F) ((c : Thread nD τ).loc cc0_scratch5), ((c : Thread nD τ).loc cc0_scratch5) ↦{fullShare} g) := by
  refine BIBase.Entails.trans ?_ (mend (ℓ := (c : Thread nD τ).loc cc0_scratch5) (fun b : Fin 2 => (tileR b).set) tiles_cover tiles_apart)
  rw [bigSep_univ_two, OT_set, OT_set]

variable (A : Dev nD → X.view.ty.Contents (Elt F)) (B : Dev nD → W.view.ty.Contents (Elt F))

theorem WB_any (c : Dev nD) (b sub : Fin 2) : (wbAt B c b sub : sProp 𝕄)
    ⊢ iprop(∃ f : Buf (Elt F) ((c : Thread nD τ).loc cc0_scratch2), (c : Thread nD τ).loc cc0_scratch2 ↦[(stripR b sub).set]{fullShare} f) := by
  unfold wbAt
  rw [WBstrip_set]
  iintro H
  iexists wbc B c
  iexact H
theorem SB_any (c : Dev nD) (b p sub : Fin 2) : (iprop(∃ v, sp c b p sub fullShare v) : sProp 𝕄)
    ⊢ iprop(∃ f : Buf (Elt F) ((c : Thread nD τ).loc cc0_scratch3), (c : Thread nD τ).loc cc0_scratch3 ↦[(pieceR b p sub).set]{fullShare} f) := by
  unfold sp
  rw [SP_set]
  iintro ⟨%v, H⟩
  iexists (SP b p sub).view.rep v
  iexact H
theorem RB_any (c : Dev nD) (b p sub : Fin 2) : (iprop(∃ v, rp c b p sub v) : sProp 𝕄)
    ⊢ iprop(∃ f : Buf (Elt F) ((c : Thread nD τ).loc cc0_scratch4), (c : Thread nD τ).loc cc0_scratch4 ↦[(pieceR b p sub).set]{fullShare} f) := by
  unfold rp
  rw [RP_set]
  iintro ⟨%v, H⟩
  iexists (RP b p sub).view.rep v
  iexact H

theorem mend_WB (c : Dev nD) : (bigSep Finset.univ fun t : Fin 2 × Fin 2 => wbAt B c t.1 t.2 : sProp 𝕄)
    ⊢ iprop(∃ g : Buf (Elt F) ((c : Thread nD τ).loc cc0_scratch2), ((c : Thread nD τ).loc cc0_scratch2) ↦{fullShare} g) :=
  (bigSep_mono fun t _ => WB_any B c t.1 t.2).trans
    (mend (ℓ := (c : Thread nD τ).loc cc0_scratch2) (fun t : Fin 2 × Fin 2 => (stripR t.1 t.2).set) strips_cover strips_apart)

theorem mend_SB (c : Dev nD) : (bigSep Finset.univ fun t : Fin 2 × Fin 2 × Fin 2 => iprop(∃ v, sp c t.1 t.2.1 t.2.2 fullShare v) : sProp 𝕄)
    ⊢ iprop(∃ g : Buf (Elt F) ((c : Thread nD τ).loc cc0_scratch3), ((c : Thread nD τ).loc cc0_scratch3) ↦{fullShare} g) :=
  (bigSep_mono fun t _ => SB_any c t.1 t.2.1 t.2.2).trans
    (mend (ℓ := (c : Thread nD τ).loc cc0_scratch3) (fun t : Fin 2 × Fin 2 × Fin 2 => (pieceR t.1 t.2.1 t.2.2).set) pieces_cover pieces_apart)

theorem mend_RB (c : Dev nD) : (bigSep Finset.univ fun t : Fin 2 × Fin 2 × Fin 2 => iprop(∃ v, rp c t.1 t.2.1 t.2.2 v) : sProp 𝕄)
    ⊢ iprop(∃ g : Buf (Elt F) ((c : Thread nD τ).loc cc0_scratch4), ((c : Thread nD τ).loc cc0_scratch4) ↦{fullShare} g) :=
  (bigSep_mono fun t _ => RB_any c t.1 t.2.1 t.2.2).trans
    (mend (ℓ := (c : Thread nD τ).loc cc0_scratch4) (fun t : Fin 2 × Fin 2 × Fin 2 => (pieceR t.1 t.2.1 t.2.2).set) pieces_cover pieces_apart)

/-- The four written strips are the whole result, each read back as written. -/
theorem mend_O (c : Dev nD) (v : Fin 2 → Fin 2 → Vec F S1024x1024 .f32) : (bigSep Finset.univ fun t : Fin 2 × Fin 2 => ocAt c t.1 t.2 (v t.1 t.2) : sProp 𝕄)
    ⊢ iprop(∃ g : Buf (Elt F) ((c : Thread nD τ).loc main_v1), ⌜∀ b sub, (OC b sub).view.read (Elt F) g = v b sub⌝ ∗ ((c : Thread nD τ).loc main_v1) ↦{fullShare} g) := by
  have h := mend_at (F := F) (ℓ := (c : Thread nD τ).loc main_v1) (fun t : Fin 2 × Fin 2 => (stripR t.1 t.2).set)
    strips_cover strips_apart (fun t => (OC t.1 t.2).view.rep (v t.1 t.2))
  have e : ∀ t ∈ (Finset.univ : Finset (Fin 2 × Fin 2)), (ocAt c t.1 t.2 (v t.1 t.2) : sProp 𝕄)
      = ((c : Thread nD τ).loc main_v1 ↦[(stripR t.1 t.2).set]{fullShare} (OC t.1 t.2).view.rep (v t.1 t.2)) := fun t _ => by
    unfold ocAt
    rw [OC_set]
  rw [bigSep_congr e]
  iintro H
  ihave H := h $$ H
  icases H with ⟨%g, %hg, H⟩
  iexists g
  isplitr
  · ipureintro
    exact fun b sub => (View.read_congr fun i hi => hg (b, sub) i (OC_set b sub ▸ hi)).trans
      (View.read_rep _ _)
  · iexact H

/-! ## A piece, a direction, the device -/

/-- The cells of one half of a direction's columns, at zero, and its buffers. -/
def pieceStop (c : Dev nD) (b sub : Fin 2) : sProp 𝕄 :=
  iprop(((∃ v, sp c b 0 sub fullShare v) ∗ ∃ v, sp c b 1 sub fullShare v) ∗ ((∃ v, rp c b 0 sub v) ∗ ∃ v, rp c b 1 sub v)
    ∗ (semVal (cell c (.send b 0 sub)) 0 ∗ semVal (cell c (.send b 1 sub)) 0)
    ∗ semVal (cell c (.recv b 0 sub)) 0 ∗ semVal (cell c (.recv b 1 sub)) 0)

theorem piece_stop (c : Dev nD) (b sub : Fin 2) : iprop(ctx V K J ιwm ∗ PcEnd c b sub) ⊢ |={Set.univ}=> pieceStop c b sub := by
  unfold PcEnd pieceStop
  iintro ⟨#Hctx, ⟨Hs1, Hi1⟩, ⟨Hs0, Hi0⟩, ⟨Hj1, Hr1⟩, Hj0, Hr0⟩
  icombine Hctx Hi1 as H
  imod (close_send V K J ιwm c b sub 7 (by decide)) $$ H with Hi1
  icombine Hctx Hi0 as H
  imod (close_send V K J ιwm c b sub 8 (by decide)) $$ H with Hi0
  icombine Hctx Hj1 as H
  imod (close_recv V K J ιwm c b sub 7 (by decide)) $$ H with Hj1
  icombine Hctx Hj0 as H
  imod (close_recv V K J ιwm c b sub 8 (by decide)) $$ H with Hj0
  imodintro
  isplitl [Hs0 Hs1]
  · isplitl [Hs0]; · iexact Hs0
    iexact Hs1
  isplitl [Hr0 Hr1]
  · isplitl [Hr0]; · iexact Hr0
    iexact Hr1
  isplitl [Hi0 Hi1]
  · isplitl [Hi0]; · iexact Hi0
    iexact Hi1
  · isplitl [Hj0]; · iexact Hj0
    iexact Hj1

/-- A direction's cells at zero, its buffers and its two strips of the result. -/
def dirStop (c : Dev nD) (b : Fin 2) : sProp 𝕄 :=
  iprop((∃ x, xtAt c b x) ∗ (wbAt B c b 0 ∗ wbAt B c b 1) ∗ semVal (cell c (.cred b)) 0 ∗ pieceStop c b 0 ∗ pieceStop c b 1
    ∗ ocAt c b 0 (resV A B V c b 0) ∗ ocAt c b 1 (resV A B V c b 1))

theorem dir_stop (c : Dev nD) (b : Fin 2) : iprop(ctx V K J ιwm ∗ DirEnd A B V c b) ⊢ |={Set.univ}=> dirStop V A B c b := by
  unfold DirEnd dirStop
  iintro ⟨#Hctx, Hx, Hw, Hc, H0, H1, Ho⟩
  icombine Hctx Hc as H
  imod (close_cred V K J ιwm c b) $$ H with Hc
  icombine Hctx H0 as H
  imod (piece_stop V K J ιwm c b 0) $$ H with H0
  icombine Hctx H1 as H
  imod (piece_stop V K J ιwm c b 1) $$ H with H1
  imodintro
  isplitl [Hx]; · iexact Hx
  isplitl [Hw]; · iexact Hw
  isplitl [Hc]; · iexact Hc
  isplitl [H0]; · iexact H0
  isplitl [H1]; · iexact H1
  iexact Ho

theorem one_dir_back (c : Dev nD) (b : Fin 2) : dirStop V A B c b ⊢ (iprop((∃ x, xtAt c b x) ∗ (wbAt B c b 0 ∗ wbAt B c b 1)
      ∗ (((∃ v, sp c b 0 0 fullShare v) ∗ ∃ v, sp c b 0 1 fullShare v) ∗ (∃ v, sp c b 1 0 fullShare v) ∗ ∃ v, sp c b 1 1 fullShare v)
      ∗ (((∃ v, rp c b 0 0 v) ∗ ∃ v, rp c b 0 1 v) ∗ (∃ v, rp c b 1 0 v) ∗ ∃ v, rp c b 1 1 v)
      ∗ ((semVal (cell c (.send b 0 0)) 0 ∗ semVal (cell c (.send b 0 1)) 0) ∗ semVal (cell c (.send b 1 0)) 0 ∗ semVal (cell c (.send b 1 1)) 0)
      ∗ ((semVal (cell c (.recv b 0 0)) 0 ∗ semVal (cell c (.recv b 0 1)) 0) ∗ semVal (cell c (.recv b 1 0)) 0 ∗ semVal (cell c (.recv b 1 1)) 0)
      ∗ semVal (cell c (.cred b)) 0
      ∗ (ocAt c b 0 (resV A B V c b 0) ∗ ocAt c b 1 (resV A B V c b 1))) : sProp 𝕄) := by
  unfold dirStop pieceStop
  iintro ⟨Hx, Hw, Hc, ⟨⟨S00, S10⟩, ⟨R00, R10⟩, ⟨A00, A10⟩, B00, B10⟩, ⟨⟨S01, S11⟩, ⟨R01, R11⟩, ⟨A01, A11⟩, B01, B11⟩, Ho⟩
  isplitl [Hx]; · iexact Hx
  isplitl [Hw]; · iexact Hw
  isplitl [S00 S01 S10 S11]
  · isplitl [S00 S01]
    · isplitl [S00]; · iexact S00
      iexact S01
    · isplitl [S10]; · iexact S10
      iexact S11
  isplitl [R00 R01 R10 R11]
  · isplitl [R00 R01]
    · isplitl [R00]; · iexact R00
      iexact R01
    · isplitl [R10]; · iexact R10
      iexact R11
  isplitl [A00 A01 A10 A11]
  · isplitl [A00 A01]
    · isplitl [A00]; · iexact A00
      iexact A01
    · isplitl [A10]; · iexact A10
      iexact A11
  isplitl [B00 B01 B10 B11]
  · isplitl [B00 B01]
    · isplitl [B00]; · iexact B00
      iexact B01
    · isplitl [B10]; · iexact B10
      iexact B11
  isplitl [Hc]; · iexact Hc
  iexact Ho

/-- Both directions' resources, by kind. -/
theorem by_kind (c : Dev nD) : (iprop(dirStop V A B c 0 ∗ dirStop V A B c 1) : sProp 𝕄)
    ⊢ iprop((bigSep Finset.univ fun b : Fin 2 => iprop(∃ x, xtAt c b x))
      ∗ (bigSep Finset.univ fun t : Fin 2 × Fin 2 => wbAt B c t.1 t.2)
      ∗ (bigSep Finset.univ fun t : Fin 2 × Fin 2 × Fin 2 => iprop(∃ v, sp c t.1 t.2.1 t.2.2 fullShare v))
      ∗ (bigSep Finset.univ fun t : Fin 2 × Fin 2 × Fin 2 => iprop(∃ v, rp c t.1 t.2.1 t.2.2 v))
      ∗ (bigSep Finset.univ fun t : Fin 2 × Fin 2 × Fin 2 => semVal (cell c (.send t.1 t.2.1 t.2.2)) 0)
      ∗ (bigSep Finset.univ fun t : Fin 2 × Fin 2 × Fin 2 => semVal (cell c (.recv t.1 t.2.1 t.2.2)) 0)
      ∗ (bigSep Finset.univ fun b : Fin 2 => semVal (cell c (.cred b)) 0)
      ∗ bigSep Finset.univ fun t : Fin 2 × Fin 2 => ocAt c t.1 t.2 (resV A B V c t.1 t.2)) := by
  rw [octet, octet, octet, octet, quartet, quartet, ← bigSep_univ_two]
  simp only [← bigSep_sep' (Finset.univ : Finset (Fin 2))]
  exact bigSep_mono fun b _ => one_dir_back V A B c b

/-- What a device ends with: its arguments as they were, its result, every semaphore of its own at zero, its scratch. -/
def Stop (c : Dev nD) : sProp 𝕄 :=
  iprop(((((c : Thread nD τ).loc main_arg0) ↦{fullShare} A c) ∗ (((c : Thread nD τ).loc main_arg1) ↦{fullShare} B c)
    ∗ (∃ g : Buf (Elt F) ((c : Thread nD τ).loc main_v1), ⌜∀ b sub, (OC b sub).view.read (Elt F) g = resV A B V c b sub⌝
        ∗ ((c : Thread nD τ).loc main_v1) ↦{fullShare} g))
    ∗ (Pipeline.ownSems0 (Ix := ℕ) (Name := ℕ) (U := UU F) (Lvl := ℕ) (Val := Elt F) (τ := τ) osem c ∗ unscopedSems0 c)
    ∗ Pipeline.scopedRest cfg0.spec c)

theorem device_stop (c : Dev nD) : iprop(ctx V K J ιwm ∗ fetches A B c ∗ atPos ER (cell c .bar) 1 ∅ 0
        ∗ (stage c 0 ∗ stage c 1) ∗ DirEnd A B V c 0 ∗ DirEnd A B V c 1)
    ⊢ |={Set.univ}=> Stop V A B c := by
  unfold fetches stage Stop
  rw [XF_set, scopedRest0_eq]
  iintro ⟨#Hctx, ⟨HX, HW, HF, Hxf⟩, Hb, ⟨⟨Ht0, Hu0⟩, Ht1, Hu1⟩, HD0, HD1⟩
  icombine Hctx Hb as H
  imod (close_bar V K J ιwm c) $$ H with Hb
  icombine Hctx HD0 as H
  imod (dir_stop V K J ιwm A B c 0) $$ H with HD0
  icombine Hctx HD1 as H
  imod (dir_stop V K J ιwm A B c 1) $$ H with HD1
  icombine HD0 HD1 as H
  ihave H := (by_kind V A B c) $$ H
  icases H with ⟨Hx, Hw, Hs, Hr, Ha, Hc, Hd, Ho⟩
  imodintro
  isplitl [HX HW Ho]
  · isplitl [HX]; · iexact HX
    isplitl [HW]; · iexact HW
    iapply (mend_O c (resV A B V c)) $$ Ho
  isplitl [Hb Ha Hc Hd Hxf Hu0 Hu1]
  · iapply (sems_eq c).2
    unfold zeros locals
    rw [cells_kinds, bigSep_univ_two fun p : Fin 2 => (semVal ((c : Thread nD τ), SemLoc.dma (outS p)) 0 : sProp 𝕄)]
    isplitr [Hxf Hu0 Hu1]
    · isplitr [Hd]
      · isplitr [Hc]
        · isplitl [Hb]; · iexact Hb
          iexact Ha
        · iexact Hc
      · iexact Hd
    · isplitl [Hxf]; · iexact Hxf
      isplitl [Hu0]; · iexact Hu0
      iexact Hu1
  isplitl [Hx]
  · iapply (mend_XT c)
    iapply (Entails.of_eq (bigSep_univ_two _)) $$ Hx
  isplitl [HF]; · iexact HF
  isplitl [Hw]; · iapply (mend_WB B c) $$ Hw
  isplitl [Hs]; · iapply (mend_SB c) $$ Hs
  isplitl [Hr]; · iapply (mend_RB c) $$ Hr
  iapply (mend_OS c)
  isplitl [Ht0]; · iexact Ht0
  iexact Ht1

end Cert.KernelIdeal.Ring

end
-- ==== Proof.KernelIdealProgEq.lean ====
/-
  The printed body is the body of `KernelIdealProg`: both unfold to the same sequence of memory operations.
-/
module

public import proofs.«01_k».proof.Proof.KernelIdealProg

@[expose] public section

noncomputable section

namespace Cert.KernelIdeal.Ring

open Idealize.ShloMosaic Idealize.ShloMosaic.TcCoe Idealize.SL.Sem
open Cert.KernelIdeal.Gen

variable {F : FTy → Type} [FloatOps F]

set_option maxHeartbeats 8000000 in
set_option maxRecDepth 100000 in
/-- The printed body is this one. -/
theorem body_eq (t : Fin cfg0.N) : bodyAt0 (F := F) t = body (F := F) := by
  rfl

end Cert.KernelIdeal.Ring

end
-- ==== Proof.KernelIdealLaunch.lean ====
/-
  The run of the whole program: the proof data of its one launch, the body's obligation, and the run with its final
  memory.
-/
module

public import proofs.«01_k».proof.Proof.KernelIdealStop
public import proofs.«01_k».proof.Proof.KernelIdealProgEq
public import Idealize.ShloMosaic.Adequacy
public import Idealize.ShloMosaic.Init
public import Idealize.ShloMosaic.Lib.Pipeline.CollectiveSegs

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)
open Cert.KernelIdeal.Gen

variable {F : FTy → Type} [FloatOps F]

local notation "𝕄" => MT nD τ sig ℕ (Elt F) ℕ (UU F) ℕ

variable (m : (ℓ : Loc nD τ sig) → Buf (Elt F) ℓ) (ρ : Dev nD → PrngReg)

/-- The devices' blocks of the two arguments. -/
def argX (c : Dev nD) : X.view.ty.Contents (Elt F) := m ((c : Thread nD τ).loc main_arg0)
def argW (c : Dev nD) : W.view.ty.Contents (Elt F) := m ((c : Thread nD τ).loc main_arg1)
/-- What the pieces carry. -/
def carried : Fin 2 → ℕ → Fin 2 → Dev nD → Vec F S1024x1024 .bf16 := val (argX m) (argW m)

theorem begins : Begins (argX m) (argW m) (carried m) := fun _ _ _ => rfl
theorem sums : Sums (argX m) (argW m) (carried m) := by
  intro c b r s sub hs
  have e : s = Fin.ofNat 8 (r + 1) := by
    apply Fin.ext
    show s.val = (r + 1) % 8
    rw [Nat.mod_eq_of_lt (by have := s.isLt; omega), hs]
  rw [e]
  rfl

/-- The launch's proof data: no window; the body owes its payments before and nothing after. -/
def dats (_ : Fin 1) (c : Dev nD) : Dat τ (Elt F) ℕ ℕ (UU F) ℕ cfg0 c where
  A w := m ((cfg0.win w).arr.view.loc (c : Thread nD τ))
  after w _ := w.elim0
  Φ t := match t with
    | ⟨0, _⟩ => Start (carried m) (argX m) (argW m) c
    | ⟨_ + 1, _⟩ => Stop (carried m) (argX m) (argW m) c
  q _ := fullShare
  owed t := match t with
    | ⟨0, _⟩ => owedOf c allP
    | ⟨_ + 1, _⟩ => 0

theorem share_eq (c : Dev nD) (w : Fin cfg0.W) : (dats m 0 c).share w = fullShare := by unfold Dat.share; split <;> rfl

/-- The body, from what a device starts on to what it ends with. -/
theorem body_runs (c : Dev nD) : Runs c iprop(Start (carried m) (argX m) (argW m) c ∗ ∃ W, owes (c : Thread nD τ) (owedOf c allP) W)
    (body (F := F)) iprop(Stop (carried m) (argX m) (argW m) c ∗ ∃ W, owes (c : Thread nD τ) 0 W) := by
  intro Q
  iintro H Hk
  unfold wpc
  iapply (fupd_wp frame (wpE (defs₀ (F := F)) 𝒱₀ (c : Thread nD τ) none) Set.univ)
  imod (device_start (carried m) (argX m) (argW m) c) $$ H with ⟨%K, %J, %ιwm, #Hctx, H⟩
  imodintro
  iapply (wp_fupd frame (wpE (defs₀ (F := F)) 𝒱₀ (c : Thread nD τ) none) Set.univ)
  icombine Hctx H as H
  iapply (run_body (argX m) (argW m) (carried m) K J ιwm (begins m) (sums m) c fun a => iprop(|={Set.univ}=> Q a)) $$ H
  iintro ⟨Hf, Hb, Hs, H0, H1, Ho⟩
  imod (device_stop (carried m) K J ιwm (argX m) (argW m) c) $$ [Hf Hb Hs H0 H1] with HS
  · isplitr; · iexact Hctx
    isplitl [Hf]; · iexact Hf
    isplitl [Hb]; · iexact Hb
    isplitl [Hs]; · iexact Hs
    isplitl [H0]; · iexact H0
    iexact H1
  imodintro
  iapply Hk
  isplitl [HS]; · iexact HS
  unfold Owing
  icases Ho with ⟨Ho, -⟩
  iexact Ho

theorem no_windows (Φ : Fin cfg0.W → sProp 𝕄) : bigSep Finset.univ Φ = iprop(emp) := by
  rw [show (Finset.univ : Finset (Fin cfg0.W)) = ∅ from rfl, bigSep_empty]
  rfl

set_option maxRecDepth 100000 in
theorem body_obligation (c : Dev nD) : BodyObligation (dats (F := F) m 0 c) (defs₀ (F := F)) 𝒱₀ 0 Set.univ := fun t => by
  rw [fin_N0 t, no_windows, no_windows]
  show iprop(Start (carried m) (argX m) (argW m) c ∗ (dats m 0 c).owesAt 0 t0_0.castSucc ∗ emp)
    ⊢ wpc c (bodyAt0 (F := F) t0_0) fun _ => iprop(Stop (carried m) (argX m) (argW m) c ∗ (dats m 0 c).owesAt 0 t0_0.succ ∗ emp)
  rw [body_eq t0_0]
  unfold Dat.owesAt Pipeline.owesWithin
  iintro ⟨HS, ⟨%W, -, Ho⟩, -⟩
  iapply (body_runs m c fun _ => iprop(Stop (carried m) (argX m) (argW m) c ∗ (∃ W, ⌜_⌝ ∗ owes (c : Thread nD τ) ((dats m 0 c).owed t0_0.succ) W) ∗ emp)) $$ [HS Ho]
  · isplitl [HS]; · iexact HS
    iexists W
    iexact Ho
  iintro ⟨HS, ⟨%W', Ho⟩⟩
  isplitl [HS]; · iexact HS
  isplitl [Ho]
  · iexists W'
    isplitr; · ipureintro; exact fun _ _ => Or.inl trivial
    iexact Ho
  · iempintro

theorem waits (c : Dev nD) : (levAts L lev : sProp 𝕄) ⊢ Pipeline.cellsWaits cfgs (dats m) 0 0 c :=
  Pipeline.cellsWaits_intro cfgs (dats m) 0 0 c fun w s t => w.elim0

theorem start_intro (c : Dev nD) :
    iprop(Pipeline.unscopedRestP Pipeline.Prefetch.none cfg0.spec c (fun b => m ((c : Thread nD τ).loc b)) ∗ levAts L lev
        ∗ Pipeline.launchCred (fun d => owedOf d allP) c ∗ prngReg c (ρ c) ∗ G' (carried m) c)
      ⊢ |={Set.univ}=> iprop(((((c : Thread nD τ).loc main_arg0) ↦{fullShare} argX m c) ∗ (((c : Thread nD τ).loc main_arg1) ↦{fullShare} argW m c)
          ∗ (∃ f : Buf (Elt F) ((c : Thread nD τ).loc main_v1), ((c : Thread nD τ).loc main_v1) ↦{fullShare} f)
          ∗ levAts L lev ∗ Pipeline.launchCred (fun d => owedOf d allP) c ∗ G' (carried m) c) ∗ emp) := by
  rw [Pipeline.unscopedRestP_none, unscopedRest0_eq]
  iintro ⟨⟨HX, HW, HO⟩, Hlev, Hcr, -, HG⟩
  imodintro
  isplitl
  · isplitl [HX]; · iexact HX
    isplitl [HW]; · iexact HW
    isplitl [HO]; · iexists m ((c : Thread nD τ).loc main_v1); iexact HO
    isplitl [Hlev]; · iexact Hlev
    isplitl [Hcr]; · iexact Hcr
    iexact HG
  · iempintro

theorem phi0_intro (c : Dev nD) :
    iprop(((((c : Thread nD τ).loc main_arg0) ↦{fullShare} argX m c) ∗ (((c : Thread nD τ).loc main_arg1) ↦{fullShare} argW m c)
          ∗ (∃ f : Buf (Elt F) ((c : Thread nD τ).loc main_v1), ((c : Thread nD τ).loc main_v1) ↦{fullShare} f)
          ∗ levAts L lev ∗ Pipeline.launchCred (fun d => owedOf d allP) c ∗ G' (carried m) c)
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = Start (carried m) (argX m) (argW m) c from rfl]
  unfold Start
  iintro ⟨⟨HX, HW, HO, Hlev, Hcr, HG⟩, -, Hsc⟩
  isplitl [HX]; · iexact HX
  isplitl [HW]; · iexact HW
  isplitl [HO]; · iexact HO
  isplitl [Hsc]; · iexact Hsc
  isplitl [Hlev]; · iexact Hlev
  isplitl [Hcr]; · iexact Hcr
  iexact HG

/-- What a device's buffers hold at the end. -/
def Done (c : Dev nD) : sProp 𝕄 :=
  iprop((((c : Thread nD τ).loc main_arg0) ↦{fullShare} argX m c) ∗ (((c : Thread nD τ).loc main_arg1) ↦{fullShare} argW m c)
    ∗ (∃ g : Buf (Elt F) ((c : Thread nD τ).loc main_v1), ⌜∀ b sub, (OC b sub).view.read (Elt F) g = res (argX m) (argW m) c b sub⌝
        ∗ ((c : Thread nD τ).loc main_v1) ↦{fullShare} g))

theorem phi1_exit (c : Dev nD) :
    (dats m 0 c).Φ (Fin.last cfg0.N) ⊢ iprop((Done m c ∗ unscopedSems0 c) ∗ Pipeline.ownSems0 osem c ∗ Pipeline.scopedRest cfg0.spec c) := by
  rw [show (dats m 0 c).Φ (Fin.last cfg0.N) = Stop (carried m) (argX m) (argW m) c from rfl]
  unfold Stop
  iintro ⟨HD, ⟨Hos, Hus⟩, Hsc⟩
  isplitl [HD Hus]
  · isplitl [HD]
    · unfold Done
      iexact HD
    · iexact Hus
  isplitl [Hos]; · iexact Hos
  iexact Hsc

/-- What the final memory holds on a device. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ ∀ b sub, (OC b sub).view.read (Elt F) (s.mem ((c : Thread nD τ).loc main_v1)) = res (argX m) (argW m) c b sub)
  ∧ ∀ sm : SemLoc sig, sm.isScoped .tc = false → s.sem ((c.tc : Thread nD τ), sm) = 0

theorem whole_read (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HS⟩
  icombine HS H as H
  ihave H := (persistent_entails_right SI_pointsTo_agree) $$ H
  icases H with ⟨%h, HS, -⟩
  isplitr; · ipureintro; exact funext fun i => h i (Finset.mem_univ i)
  iexact HS

theorem read_out (c : Dev nD) (s' : Phys nD τ sig (Elt F)) : iprop((Done m c ∗ unscopedSems0 c) ∗ emp ∗ SI s')
    ⊢ (|={Set.univ}=> iprop(⌜Final m c s'.mem⌝ ∗ SI s') : sProp 𝕄) := by
  unfold Done
  iintro ⟨⟨⟨HX, HW, ⟨%g, %hg, HO⟩⟩, Hu⟩, -, HS⟩
  icombine HX HS as H
  ihave H := (whole_read s' _ _) $$ H
  icases H with ⟨%hX, HS⟩
  icombine HW HS as H
  ihave H := (whole_read s' _ _) $$ H
  icases H with ⟨%hW, HS⟩
  icombine HO HS as H
  ihave H := (whole_read s' _ _) $$ H
  icases H with ⟨%hO, HS⟩
  imod (Pipeline.unscopedSems0_read (X := unscopedSems0 c) (c := c) fupd_intro s') $$ [Hu HS] with ⟨%hu, HS⟩
  · isplitl [Hu]; · iexact Hu
    iexact HS
  imodintro
  isplitr
  · ipureintro
    exact ⟨⟨hX, hW, fun b sub => by rw [hO]; exact hg b sub⟩, hu⟩
  · iexact HS

set_option maxRecDepth 100000 in
/-- From any memory with zero counters, every fair execution of the program on the eight devices terminates without a
    fault; at the end each device's arguments are unchanged, its result's four strips hold the reduced sums, and every
    semaphore counter is zero. -/
theorem run_main : θ_run defs (onTc (τ := τ) (main (F := F))) ⟨m, fun _ => 0, ρ⟩
    (fun r => (∀ c : Dev nD, Final m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => owedOf d allP) (howed₀ := fun _ => rfl) (howedN := fun _ => rfl)
    (L := L) (lv := lev) (hL := L_of_ne) (hwaits := waits m)
    (G := G (carried m)) (G' := G' (carried m)) (u₀ := u₀)
    (hu₀ := fund_all (carried m) ⟨m, fun _ => 0, ρ⟩)
    (hglob := glob (carried m))
    (hA := fun _ _ => rfl) (hpf := fun _ k => k.elim0)
    (X := _) (Y := fun c => iprop(Done m c ∗ unscopedSems0 c)) (Z := fun _ => iprop(emp))
    (hX := start_intro m ρ) (hin := phi0_intro m) (hout := phi1_exit m)
    (QY := fun c s => Final m c s)
    (hY := fun c s' => read_out m c s')
    (hQ := fun _ h hs => ⟨fun c => (h c).2.2, sem_eq_zero hs fun c => (h c).2.2.2⟩)

end Cert.KernelIdeal.Ring

end
-- ==== Proof.KernelIdealValue.lean ====
/-
  The values over the extended reals. There a cast is the identity and a sum may be taken in any order, so the
  piece a device sends at step `r` is the sum, over the `r + 1` devices the piece has visited, of that device's
  share of one tile of the product; a strip of the result is the sum over all eight devices, cut off below
  zero; and the eight shares, each a sum over 1024 inner indices, make up the one sum over 8192 of the whole
  product.
-/
module

public import proofs.«01_k».proof.Proof.KernelIdealLaunch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.KernelIdeal.Ring

open Idealize.ShloMosaic Idealize.ShloMosaic.TcCoe Idealize.ShloMosaic.ValueIdx
open Cert.KernelIdeal.Gen

variable (A : Dev nD → FVec Ideal S8192x1024 .f32) (B : Dev nD → FVec Ideal S1024x4096 .f32)

/-! ## Where the tiles are -/

/-- The tile of step `s + 1` is the tile that the device upstream takes at step `s`. -/
theorem xoff_up (b : Fin 2) (s : Fin 7) (c : Dev nD) : xoff c b s.succ 0 = xoff (upD b c) b s.castSucc 0 := by
  revert b s c; decide
/-- The last tile is the device's own. -/
theorem xoff_last (b : Fin 2) (c : Dev nD) : xoff c b 7 0 = 1024 * c.val := by
  revert b c; decide
theorem xoff_col (b : Fin 2) (s : Fin 8) (c : Dev nD) : xoff c b s 1 = 0 := by
  revert b s c; decide

/-- The row of the activations' block at row `i` of the tile of step `s`, and the column of the weights' block
    at column `j` of a strip. -/
def rowX (c : Dev nD) (b : Fin 2) (s : Fin 8) (i : Fin 1024) : Fin 8192 :=
  ⟨xoff c b s 0 + i.val, lt_of_lt_of_le (Nat.add_lt_add_left i.isLt _) (xoff_inb c b s 0)⟩
def colW (b sub : Fin 2) (j : Fin 1024) : Fin 4096 :=
  ⟨2048 * b.val + 1024 * sub.val + j.val, by have := b.isLt; have := sub.isLt; have := j.isLt; omega⟩

theorem rowX_up (c : Dev nD) (b : Fin 2) (s : Fin 7) (i : Fin 1024) :
    rowX (upD b c) b s.castSucc i = rowX c b s.succ i :=
  Fin.ext (congrArg (· + i.val) (xoff_up b s c).symm)

/-- Device `c`'s share of one element of the product. -/
def share (c : Dev nD) (r : Fin 8192) (n : Fin 4096) : EReal :=
  ∑ t : Fin 1024, A c (ix2 r t) * B c (ix2 t n)

/-! ## One product -/

/-- An element of a tile, of a strip, and of a half of the weights. -/
theorem tile_at (c : Dev nD) (b : Fin 2) (s : Fin 8) (i t : Fin 1024) :
    ((XC c b s).view.read (Elt Ideal) (A c) (ix2 i t) : EReal) = A c (ix2 (rowX c b s i) t) := by
  refine congrArg (A c) (funext fun a => Fin.ext ?_)
  match a with
  | ⟨0, _⟩ => show xoff c b s 0 + 1 * i.val = xoff c b s 0 + i.val; omega
  | ⟨1, _⟩ => show xoff c b s 1 + 1 * t.val = t.val; rw [xoff_col]; omega
theorem strip_at (c : Dev nD) (b sub : Fin 2) (t j : Fin 1024) :
    (wst (F := Ideal) B c b sub (ix2 t j) : EReal) = B c (ix2 t (colW b sub j)) := by
  refine congrArg (B c) (funext fun a => Fin.ext ?_)
  match a with
  | ⟨0, _⟩ => show 0 + 1 * t.val = t.val; omega
  | ⟨1, _⟩ => show 2048 * b.val + 1024 * sub.val + 1 * j.val = 2048 * b.val + 1024 * sub.val + j.val; omega
theorem half_at (c : Dev nD) (b sub : Fin 2) (t j : Fin 1024) (k : Fin 2048) (hk : k.val = 1024 * sub.val + j.val) :
    (whf (F := Ideal) B c b (ix2 t k) : EReal) = B c (ix2 t (colW b sub j)) := by
  refine congrArg (B c) (funext fun a => Fin.ext ?_)
  match a with
  | ⟨0, _⟩ => show 0 + 1 * t.val = t.val; omega
  | ⟨1, _⟩ => show 2048 * b.val + 1 * k.val = 2048 * b.val + 1024 * sub.val + j.val; omega

theorem plain_strip : dot_S1024x1024_S1024x1024_S1024x1024_1_0_0_1_n_n = DotDims.plain 1024 1024 1024 := rfl
theorem plain_half : dot_S1024x1024_S1024x2048_S1024x2048_1_0_0_1_n_n = DotDims.plain 1024 1024 2048 := rfl

/-- A tile, laid out as a matrix again, is what was fetched. -/
theorem untile (c : Dev nD) (b : Fin 2) (s : Fin 8) (i t : Fin 1024) :
    (shapeCast S1024x1024 (xt (F := Ideal) A c b s) shapeCasts_S1x1024x1024_S1024x1024 (ix2 i t) : EReal) = A c (ix2 (rowX c b s i) t) := by
  unfold xt castTile
  rw [shapeCast_shapeCast]
  exact tile_at A c b s i t

/-- The first piece is the device's share of its tile. -/
theorem first_at (c : Dev nD) (b sub : Fin 2) (i j : Fin 1024) :
    (dot1 (xt (F := Ideal) A c b 0) (wst B c b sub) (ix2 i j) : EReal) = share A B c (rowX c b 0 i) (colW b sub j) := by
  unfold dot1 share
  rw [truncf_apply, matmul, plain_strip, Ideal.matmul_plain_apply, constant_apply, Ideal.ofBits_zero_f32, zero_add]
  exact Finset.sum_congr rfl fun t _ => by rw [untile, strip_at]

/-- Half of a later product is the device's share of that step's tile. -/
theorem own_at (c : Dev nD) (b sub : Fin 2) (s : Fin 8) (i j : Fin 1024) :
    (cols sub (own (F := Ideal) A B c b s) (ix2 i j) : EReal) = share A B c (rowX c b s i) (colW b sub j) := by
  have hk : 1024 * sub.val + j.val < 2048 := by have := sub.isLt; have := j.isLt; omega
  unfold cols own dotSlot share
  rw [shapeCast_shapeCast, extractStridedSlice_apply _ _ _ _ (ix2 i ⟨1024 * sub.val + j.val, hk⟩) (fun a => by
      match a with
      | ⟨0, _⟩ => exact (Nat.zero_add _).symm
      | ⟨1, _⟩ => rfl),
    truncf_apply, matmul, plain_half, Ideal.matmul_plain_apply, constant_apply, Ideal.ofBits_zero_f32, zero_add]
  exact Finset.sum_congr rfl fun t _ => by rw [untile, half_at B c b sub t j _ rfl]

/-! ## The pieces -/

/-- The piece a device sends at step `r`: the shares of the devices it has visited. -/
theorem val_at (b sub : Fin 2) (r : ℕ) (hr : r < 7) (c : Dev nD) (i j : Fin 1024) :
    (val (F := Ideal) A B b r sub c (ix2 i j) : EReal)
      = ∑ q ∈ Finset.range (r + 1), share A B ((upD b)^[q] c) (rowX c b ⟨r, by omega⟩ i) (colW b sub j) := by
  induction r generalizing c with
  | zero => rw [Finset.sum_range_one]; exact first_at A B c b sub i j
  | succ r ih =>
    have e : (Fin.ofNat 8 (r + 1)) = (⟨r + 1, by omega⟩ : Fin 8) := Fin.ext (Nat.mod_eq_of_lt (by omega))
    have h : rowX (upD b c) b ⟨r, by omega⟩ i = rowX c b ⟨r + 1, by omega⟩ i := rowX_up c b ⟨r, by omega⟩ i
    rw [Finset.sum_range_succ']
    show addf _ _ _ = _
    rw [addf_apply, own_at, ih (by omega), e, h, add_comm]
    rfl

/-- Going upstream from a device passes every device once. -/
theorem up_bijective (b : Fin 2) (c : Dev nD) : Function.Bijective fun q : Fin 8 => ((upD b)^[q.val] c : Dev nD) := by
  revert b c; decide

/-- The row of the activations' block that becomes row `i` of device `c`'s result. -/
def rowO (c : Dev nD) (i : Fin 1024) : Fin 8192 := ⟨c.val * 1024 + i.val, by have : c.val < 8 := c.isLt; have := i.isLt; omega⟩

/-- An element of a strip of the result: the shares of all the devices, cut off below zero. -/
theorem res_at (c : Dev nD) (b sub : Fin 2) (i j : Fin 1024) :
    (res (F := Ideal) A B c b sub (ix2 i j) : EReal) = max (∑ d : Dev nD, share A B d (rowO c i) (colW b sub j)) 0 := by
  have h : rowX (upD b c) b ⟨6, by omega⟩ i = rowX c b 7 i := rowX_up c b ⟨6, by omega⟩ i
  have h7 : rowX c b 7 i = rowO c i := Fin.ext (by
    show xoff c b 7 0 + i.val = c.val * 1024 + i.val
    rw [xoff_last]; omega)
  have hs : ∑ d : Dev nD, share A B d (rowO c i) (colW b sub j)
      = ∑ q ∈ Finset.range 8, share A B ((upD b)^[q] c) (rowO c i) (colW b sub j) := by
    rw [← (up_bijective b c).sum_comp]
    exact Fin.sum_univ_eq_sum_range (fun q => share A B ((upD b)^[q] c) (rowO c i) (colW b sub j)) 8
  unfold res
  rw [maximumf_apply, addf_apply, extf_apply, extf_apply, own_at, val_at A B b sub 6 (by omega), h, h7, hs,
    Finset.sum_range_succ' _ 7, add_comm]
  exact congrArg (max _) Ideal.ofBits_zero_f32

/-! ## The whole product -/

/-- Where device `c`'s blocks lie in the whole arrays, by coordinates. -/
theorem blockX_at (c : Fin 8) (x : FVec Ideal ⟨2, ![8192, 8192]⟩ .f32) (r : Fin 8192) (t : Fin 1024) :
    Layout.block ⟨2, ![8192, 1024]⟩ ⟨2, ![8192, 8192]⟩ 1 8 c x (by decide) (ix2 r t) = x (ix2 r (finProdFinEquiv (c, t))) := by
  rw [Layout.block_apply]
  refine congrArg x (funext fun a => Fin.ext ?_)
  match a with
  | ⟨0, _⟩ => rfl
  | ⟨1, _⟩ => show c.val * 1024 + t.val = t.val + 1024 * c.val; omega
theorem blockW_at (c : Fin 8) (w : FVec Ideal ⟨2, ![8192, 4096]⟩ .f32) (t : Fin 1024) (n : Fin 4096) :
    Layout.block ⟨2, ![1024, 4096]⟩ ⟨2, ![8192, 4096]⟩ 0 8 c w (by decide) (ix2 t n) = w (ix2 (finProdFinEquiv (c, t)) n) := by
  rw [Layout.block_apply]
  refine congrArg w (funext fun a => Fin.ext ?_)
  match a with
  | ⟨0, _⟩ => show c.val * 1024 + t.val = t.val + 1024 * c.val; omega
  | ⟨1, _⟩ => rfl
theorem blockO_at (c : Fin 8) (v : FVec Ideal ⟨2, ![8192, 4096]⟩ .f32) (i : Fin 1024) (n : Fin 4096) :
    Layout.block ⟨2, ![1024, 4096]⟩ ⟨2, ![8192, 4096]⟩ 0 8 c v (by decide) (ix2 i n) = v (ix2 (rowO c i) n) := by
  rw [Layout.block_apply]
  refine congrArg v (funext fun a => Fin.ext ?_)
  match a with
  | ⟨0, _⟩ => rfl
  | ⟨1, _⟩ => rfl

/-- What the reference computes of whole arrays. -/
def whole (x : FVec Ideal ⟨2, ![8192, 8192]⟩ .f32) (w : FVec Ideal ⟨2, ![8192, 4096]⟩ .f32) :
    FVec Ideal ⟨2, ![8192, 4096]⟩ .f32 :=
  maximumf (Host.dotGeneral Cert.ReferenceIdeal.dot_S8192x8192_S8192x4096_S8192x4096_1_0_0_1_n_n none x w)
    (broadcastInDim Cert.ReferenceIdeal.S8192x4096 ![] Cert.ReferenceIdeal.Facts₀.bcast_S_S8192x4096
      (constant Cert.ReferenceIdeal.S_ .f32 0x00000000#32))

theorem plain_whole : Cert.ReferenceIdeal.dot_S8192x8192_S8192x4096_S8192x4096_1_0_0_1_n_n = DotDims.plain 8192 8192 4096 := rfl

/-- One element of it, as the sum over the devices of their shares, when the devices hold the blocks. -/
theorem whole_at (x : FVec Ideal ⟨2, ![8192, 8192]⟩ .f32) (w : FVec Ideal ⟨2, ![8192, 4096]⟩ .f32)
    (hA : ∀ c, A c = Layout.block ⟨2, ![8192, 1024]⟩ ⟨2, ![8192, 8192]⟩ 1 8 c x)
    (hB : ∀ c, B c = Layout.block ⟨2, ![1024, 4096]⟩ ⟨2, ![8192, 4096]⟩ 0 8 c w) (r : Fin 8192) (n : Fin 4096) :
    (whole x w (ix2 r n) : EReal) = max (∑ d : Dev nD, share A B d r n) 0 := by
  unfold whole
  rw [maximumf_apply, plain_whole, StackMember.dotGeneral_plain_apply]
  refine congrArg₂ max ?_ Ideal.ofBits_zero_f32
  rw [← (finProdFinEquiv (m := 8) (n := 1024)).sum_comp, Fintype.sum_prod_type]
  refine Finset.sum_congr rfl fun d _ => Finset.sum_congr rfl fun t _ => ?_
  rw [hA d, hB d, blockX_at, blockW_at]

/-! ## The result's buffer -/

/-- Every index of the result's block is an index of one of its strips. -/
theorem strip_of (n : Fin 4096) : ∃ b sub : Fin 2, ∃ j : Fin 1024, n = colW b sub j := by
  have hn := n.isLt
  exact ⟨⟨n.val / 2048, by omega⟩, ⟨n.val % 2048 / 1024, by omega⟩, ⟨n.val % 1024, by omega⟩, Fin.ext (by
    show n.val = 2048 * (n.val / 2048) + 1024 * (n.val % 2048 / 1024) + n.val % 1024; omega)⟩

theorem result_at (f : FVec Ideal S1024x4096 .f32) (b sub : Fin 2) (i j : Fin 1024) :
    ((OC b sub).view.read (Elt Ideal) f (ix2 i j) : EReal) = f (ix2 i (colW b sub j)) := by
  refine congrArg f (funext fun a => Fin.ext ?_)
  match a with
  | ⟨0, _⟩ => show 0 + 1 * i.val = i.val; omega
  | ⟨1, _⟩ => show 2048 * b.val + 1024 * sub.val + 1 * j.val = 2048 * b.val + 1024 * sub.val + j.val; omega

/-- A buffer whose strips are the strips of the result is block `c` of what the reference computes. -/
theorem result_block (x : FVec Ideal ⟨2, ![8192, 8192]⟩ .f32) (w : FVec Ideal ⟨2, ![8192, 4096]⟩ .f32)
    (hA : ∀ c, A c = Layout.block ⟨2, ![8192, 1024]⟩ ⟨2, ![8192, 8192]⟩ 1 8 c x)
    (hB : ∀ c, B c = Layout.block ⟨2, ![1024, 4096]⟩ ⟨2, ![8192, 4096]⟩ 0 8 c w) (c : Dev nD)
    (f : FVec Ideal S1024x4096 .f32)
    (hf : ∀ b sub, (OC b sub).view.read (Elt Ideal) f = res (F := Ideal) A B c b sub) :
    f = Layout.block ⟨2, ![1024, 4096]⟩ ⟨2, ![8192, 4096]⟩ 0 8 c (whole x w) := by
  funext y
  obtain ⟨i, n, rfl⟩ : ∃ i n, y = ix2 i n := ⟨_, _, eq_ix2 y⟩
  obtain ⟨b, sub, j, rfl⟩ := strip_of n
  exact (result_at f b sub i j).symm.trans ((congrFun (hf b sub) (ix2 i j)).trans ((res_at A B c b sub i j).trans
    ((whole_at A B x w hA hB _ _).symm.trans (blockO_at c (whole x w) i _).symm)))

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel as printed runs to the end, leaves its arguments and sets every counter back. -/
theorem frame_kernel : Cert.quiescent_Kernel := fun m ρ _ =>
  (θ_run Cert.Kernel.defs _ _).mono (fun _ h => ⟨fun c => ⟨(h.1 c).1.1, (h.1 c).1.2.1⟩, h.2⟩)
    (Cert.Kernel.Ring.run_main (F := Bits) m ρ)

/-- So does the kernel over the extended reals. -/
theorem frame_kernelIdeal : Cert.quiescent_KernelIdeal := fun m ρ _ =>
  (θ_run Cert.KernelIdeal.defs _ _).mono (fun _ h => ⟨fun c => ⟨(h.1 c).1.1, (h.1 c).1.2.1⟩, h.2⟩)
    (Cert.KernelIdeal.Ring.run_main (F := Ideal) m ρ)

/-- So does the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device's result is its block of the reference's. -/
theorem algebraic : Cert.algebraic_KernelIdeal_ReferenceIdeal := fun m ρ m' ρ' _ hm =>
  ⟨_, (θ_run Cert.KernelIdeal.defs _ _).mono
      (fun _ h c => ⟨Cert.KernelIdeal.Ring.result_block _ _ _ _ (fun d => (hm d).1) (fun d => (hm d).2) c _ (h.1 c).1.2.2,
        (h.1 c).1.1, (h.1 c).1.2.1⟩)
      (Cert.KernelIdeal.Ring.run_main (F := Ideal) m ρ),
    (θ_run Cert.ReferenceIdeal.defs _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
